-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_nonzero_patches [hPre_finite_nonzero_patches : Cert.Pre_finite_nonzero_patches.Facts] (m : (ℓ : Loc Cert.KernelIdeal.nD Cert.KernelIdeal.τ Cert.KernelIdeal.sig) → Buf (Elt Ideal) ℓ) : Prop :=
  ∀ c : Dev Cert.KernelIdeal.nD,
    (Cert.Pre_finite_nonzero_patches.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_nonzero_patches.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_nonzero_patches.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite_nonzero_patches.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_nonzero_patches [hPre_finite_nonzero_patches : Cert.Pre_finite_nonzero_patches.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_nonzero_patches.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_nonzero_patches.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_nonzero_patches.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite_nonzero_patches.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_nonzero_patches [hKernelIdeal : Cert.KernelIdeal.Facts] [hPre_finite_nonzero_patches : Cert.Pre_finite_nonzero_patches.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_nonzero_patches m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_nonzero_patches [hReferenceIdeal : Cert.ReferenceIdeal.Facts] [hPre_finite_nonzero_patches : Cert.Pre_finite_nonzero_patches.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_nonzero_patches m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "patch_eps2" .f32 0x2D8CBCCC#32 ((77371252064649 / 4835703278458516698824704 : ℝ) : EReal)

def algebraic_KernelIdeal_ReferenceIdeal_pre_finite_nonzero_patches [hKernelIdeal : Cert.KernelIdeal.Facts] [hReferenceIdeal : Cert.ReferenceIdeal.Facts] [hPre_finite_nonzero_patches : Cert.Pre_finite_nonzero_patches.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_nonzero_patches m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v233)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v233) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v313) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_nonzero_patches : Cert.Pre_finite_nonzero_patches.Facts),
    quiescent_Kernel (hKernel := hKernel)
    ∧ quiescent_KernelIdeal (hKernelIdeal := hKernelIdeal)
    ∧ quiescent_KernelIdeal_pre_finite_nonzero_patches (hKernelIdeal := hKernelIdeal) (hPre_finite_nonzero_patches := hPre_finite_nonzero_patches)
    ∧ quiescent_ReferenceIdeal (hReferenceIdeal := hReferenceIdeal)
    ∧ quiescent_ReferenceIdeal_pre_finite_nonzero_patches (hReferenceIdeal := hReferenceIdeal) (hPre_finite_nonzero_patches := hPre_finite_nonzero_patches)
    ∧ preserves_Kernel_KernelIdeal
    ∧ algebraic_KernelIdeal_ReferenceIdeal_pre_finite_nonzero_patches (hKernelIdeal := hKernelIdeal) (hReferenceIdeal := hReferenceIdeal) (hPre_finite_nonzero_patches := hPre_finite_nonzero_patches)
-- ==== Pre_finite_nonzero_patches.lean ====
abbrev S64x512x64 : Shape := ⟨3, ![64, 512, 64]⟩
abbrev S2x4x3 : Shape := ⟨3, ![2, 4, 3]⟩
abbrev S96x500 : Shape := ⟨2, ![96, 500]⟩
abbrev S96 : Shape := ⟨1, ![96]⟩
abbrev S64x64x512 : Shape := ⟨3, ![64, 64, 512]⟩
abbrev S4096x512 : Shape := ⟨2, ![4096, 512]⟩
abbrev S125 : Shape := ⟨1, ![125]⟩
abbrev S125x1 : Shape := ⟨2, ![125, 1]⟩
abbrev S_ : Shape := ⟨0, ![]⟩
abbrev S16 : Shape := ⟨1, ![16]⟩
abbrev S1x16 : Shape := ⟨2, ![1, 16]⟩
abbrev S125x16 : Shape := ⟨2, ![125, 16]⟩
abbrev S125x16x1 : Shape := ⟨3, ![125, 16, 1]⟩
abbrev S4096x125x16 : Shape := ⟨3, ![4096, 125, 16]⟩
abbrev S512000x16 : Shape := ⟨2, ![512000, 16]⟩
abbrev S512000 : Shape := ⟨1, ![512000]⟩

class Facts : Prop where
  transposes_S64x512x64_S64x64x512_0_2_1 : S64x512x64.Transposes [0, 2, 1] S64x64x512
  shapeCasts_S64x64x512_S4096x512 : S64x64x512.ShapeCasts S4096x512
  bcast_S125_S125x1_0 : S125.BroadcastsInDim S125x1 (![0] : Fin 1 → Fin S125x1.rank)
  bcast_S_S125x1 : S_.BroadcastsInDim S125x1 (![] : Fin 0 → Fin S125x1.rank)
  bcast_S16_S1x16_1 : S16.BroadcastsInDim S1x16 (![1] : Fin 1 → Fin S1x16.rank)
  bcast_S125x1_S125x16_0_1 : S125x1.BroadcastsInDim S125x16 (![0, 1] : Fin 2 → Fin S125x16.rank)
  bcast_S1x16_S125x16_0_1 : S1x16.BroadcastsInDim S125x16 (![0, 1] : Fin 2 → Fin S125x16.rank)
  bcast_S_S125x16 : S_.BroadcastsInDim S125x16 (![] : Fin 0 → Fin S125x16.rank)
  bcast_S125x16_S125x16x1_0_1 : S125x16.BroadcastsInDim S125x16x1 (![0, 1] : Fin 2 → Fin S125x16x1.rank)
  shapeCasts_S4096x125x16_S512000x16 : S4096x125x16.ShapeCasts S512000x16
  bcast_S_S512000x16 : S_.BroadcastsInDim S512000x16 (![] : Fin 0 → Fin S512000x16.rank)
  bcast_S_S64x512x64 : S_.BroadcastsInDim S64x512x64 (![] : Fin 0 → Fin S64x512x64.rank)
  bcast_S_S2x4x3 : S_.BroadcastsInDim S2x4x3 (![] : Fin 0 → Fin S2x4x3.rank)
  bcast_S_S96x500 : S_.BroadcastsInDim S96x500 (![] : Fin 0 → Fin S96x500.rank)
  reducesTo_S512000x16_S512000_d1 : S512000x16.ReducesTo [1] S512000
  h_S_ : 0 < S_.numel
  bcast_S_S512000 : S_.BroadcastsInDim S512000 (![] : Fin 0 → Fin S512000.rank)
  gather_S4096x512_S125x16x1_S4096x125x16_0_1_n_n_1_2_40961_wf : GatherDims.WF S4096x512 S125x16x1 S4096x125x16 [0] [1] [] [1] [] 2 ![4096, 1]

variable [Facts]

def gather_S4096x512_S125x16x1_S4096x125x16_0_1_n_n_1_2_40961 : GatherDims S4096x512 S125x16x1 S4096x125x16 where
  offsetDims := [0]
  collapsedSliceDims := [1]
  operandBatchingDims := []
  startIndicesBatchingDims := []
  startIndexMap := [1]
  indexVectorDim := 2
  sliceSizes := ![4096, 1]
  wf := gather_S4096x512_S125x16x1_S4096x125x16_0_1_n_n_1_2_40961_wf
def fn_part1 {F : FTy → Type} [FloatOps F] (main_arg0 : FVec F S64x512x64 .f32) (main_arg1 : FVec F S2x4x3 .f32) (main_arg2 : FVec F S96x500 .f32) (main_v18 : FVec F S512000x16 .f32) (main_v19 : FVec F S512000x16 .f32) : IVec S64x512x64 1 × IVec S2x4x3 1 × IVec S96x500 1 × IVec S512000 1 :=
  let main_v20 : FVec F S512000x16 .f32 := addf main_v18 main_v19
  let main_v21 : FVec F S64x512x64 .f32 := Host.absf main_arg0
  let main_cst_2 : FVec F S_ .f32 := constant S_ .f32 0x7F800000#32
  let main_v22 : FVec F S64x512x64 .f32 := broadcastInDim S64x512x64 ![] bcast_S_S64x512x64 main_cst_2
  let main_v23 : IVec S64x512x64 1 := cmpf .olt main_v21 main_v22
  let main_v24 : FVec F S2x4x3 .f32 := Host.absf main_arg1
  let main_cst_3 : FVec F S_ .f32 := constant S_ .f32 0x7F800000#32
  let main_v25 : FVec F S2x4x3 .f32 := broadcastInDim S2x4x3 ![] bcast_S_S2x4x3 main_cst_3
  let main_v26 : IVec S2x4x3 1 := cmpf .olt main_v24 main_v25
  let main_v27 : FVec F S96x500 .f32 := Host.absf main_arg2
  let main_cst_4 : FVec F S_ .f32 := constant S_ .f32 0x7F800000#32
  let main_v28 : FVec F S96x500 .f32 := broadcastInDim S96x500 ![] bcast_S_S96x500 main_cst_4
  let main_v29 : IVec S96x500 1 := cmpf .olt main_v27 main_v28
  let main_v30 : FVec F S512000x16 .f32 := mulf main_v20 main_v20
  let main_cst_5 : FVec F S_ .f32 := constant S_ .f32 0x00000000#32
  let main_v31 : FVec F S512000 .f32 := (fun x v => Host.reduceAdd x v reducesTo_S512000x16_S512000_d1 h_S_) main_v30 main_cst_5
  let main_cst_6 : FVec F S_ .f32 := constant S_ .f32 0x00000000#32
  let main_v32 : FVec F S512000 .f32 := broadcastInDim S512000 ![] bcast_S_S512000 main_cst_6
  let main_v33 : IVec S512000 1 := cmpf .ogt main_v31 main_v32
  (main_v23, main_v26, main_v29, main_v33)

def fn {F : FTy → Type} [FloatOps F] (main_arg0 : FVec F S64x512x64 .f32) (main_arg1 : FVec F S2x4x3 .f32) (main_arg2 : FVec F S96x500 .f32) (main_arg3 : FVec F S96 .f32) : IVec S64x512x64 1 × IVec S2x4x3 1 × IVec S96x500 1 × IVec S512000 1 :=
  let main_v0 : FVec F S64x64x512 .f32 := (transpose S64x64x512 [0, 2, 1] · transposes_S64x512x64_S64x64x512_0_2_1) main_arg0
  let main_v1 : FVec F S4096x512 .f32 := shapeCast S4096x512 main_v0 shapeCasts_S64x64x512_S4096x512
  let main_v2 : IVec S125 32 := iotaInDim S125 32 0
  let main_v3 : IVec S125x1 32 := broadcastInDim S125x1 ![0] bcast_S125_S125x1_0 main_v2
  let main_c : IVec S_ 32 := constantI S_ 32 4#32
  let main_v4 : IVec S125x1 32 := broadcastInDim S125x1 ![] bcast_S_S125x1 main_c
  let main_v5 : IVec S125x1 32 := muli main_v3 main_v4
  let main_v6 : IVec S16 32 := iotaInDim S16 32 0
  let main_v7 : IVec S1x16 32 := broadcastInDim S1x16 ![1] bcast_S16_S1x16_1 main_v6
  let main_v8 : IVec S125x16 32 := broadcastInDim S125x16 ![0, 1] bcast_S125x1_S125x16_0_1 main_v5
  let main_v9 : IVec S125x16 32 := broadcastInDim S125x16 ![0, 1] bcast_S1x16_S125x16_0_1 main_v7
  let main_v10 : IVec S125x16 32 := addi main_v8 main_v9
  let main_c_0 : IVec S_ 32 := constantI S_ 32 0#32
  let main_v11 : IVec S125x16 32 := broadcastInDim S125x16 ![] bcast_S_S125x16 main_c_0
  let main_v12 : IVec S125x16 1 := cmpi .slt main_v10 main_v11
  let main_c_1 : IVec S_ 32 := constantI S_ 32 512#32
  let main_v13 : IVec S125x16 32 := broadcastInDim S125x16 ![] bcast_S_S125x16 main_c_1
  let main_v14 : IVec S125x16 32 := addi main_v10 main_v13
  let main_v15 : IVec S125x16 32 := select main_v12 main_v14 main_v10
  let main_v16 : IVec S125x16x1 32 := broadcastInDim S125x16x1 ![0, 1] bcast_S125x16_S125x16x1_0_1 main_v15
  let main_v17 : FVec F S4096x125x16 .f32 := (fun x i => Host.gather gather_S4096x512_S125x16x1_S4096x125x16_0_1_n_n_1_2_40961 x i) main_v1 main_v16
  let main_v18 : FVec F S512000x16 .f32 := shapeCast S512000x16 main_v17 shapeCasts_S4096x125x16_S512000x16
  let main_cst : FVec F S_ .f32 := constant S_ .f32 0x358637BD#32
  let main_v19 : FVec F S512000x16 .f32 := broadcastInDim S512000x16 ![] bcast_S_S512000x16 main_cst
  fn_part1 (F := F) main_arg0 main_arg1 main_arg2 main_v18 main_v19
-- ==== Kernel.lean ====
abbrev S64x512x64 : Shape := ⟨3, ![64, 512, 64]⟩
abbrev S2x4x3 : Shape := ⟨3, ![2, 4, 3]⟩
abbrev S96x500 : Shape := ⟨2, ![96, 500]⟩
abbrev S96 : Shape := ⟨1, ![96]⟩
abbrev S16 : Shape := ⟨1, ![16]⟩
abbrev S16x4 : Shape := ⟨2, ![16, 4]⟩
abbrev S128x512 : Shape := ⟨2, ![128, 512]⟩
abbrev S2x4x1 : Shape := ⟨3, ![2, 4, 1]⟩
abbrev S2x4 : Shape := ⟨2, ![2, 4]⟩
abbrev S_ : Shape := ⟨0, ![]⟩
abbrev S2x4x2 : Shape := ⟨3, ![2, 4, 2]⟩
abbrev S2x4x1x2 : Shape := ⟨4, ![2, 4, 1, 2]⟩
abbrev S2x4x2x2 : Shape := ⟨4, ![2, 4, 2, 2]⟩
abbrev S2x1x2x2 : Shape := ⟨4, ![2, 1, 2, 2]⟩
abbrev S2x2x2 : Shape := ⟨3, ![2, 2, 2]⟩
abbrev S2x2x1x1x1x2x1x1x1 : Shape := ⟨9, ![2, 2, 1, 1, 1, 2, 1, 1, 1]⟩
abbrev S2x1x2x1x1x1x2x1x1 : Shape := ⟨9, ![2, 1, 2, 1, 1, 1, 2, 1, 1]⟩
abbrev S2x2x2x1x1x2x2x1x1 : Shape := ⟨9, ![2, 2, 2, 1, 1, 2, 2, 1, 1]⟩
abbrev S2x1x1x2x1x1x1x2x1 : Shape := ⟨9, ![2, 1, 1, 2, 1, 1, 1, 2, 1]⟩
abbrev S2x2x2x2x1x2x2x2x1 : Shape := ⟨9, ![2, 2, 2, 2, 1, 2, 2, 2, 1]⟩
abbrev S2x1x1x1x2x1x1x1x2 : Shape := ⟨9, ![2, 1, 1, 1, 2, 1, 1, 1, 2]⟩
abbrev S2x2x2x2x2x2x2x2x2 : Shape := ⟨9, ![2, 2, 2, 2, 2, 2, 2, 2, 2]⟩
abbrev S2x16x16 : Shape := ⟨3, ![2, 16, 16]⟩
abbrev S1x16x16 : Shape := ⟨3, ![1, 16, 16]⟩
abbrev S16x16 : Shape := ⟨2, ![16, 16]⟩
abbrev S16x1 : Shape := ⟨2, ![16, 1]⟩
abbrev S2x16x16x1 : Shape := ⟨4, ![2, 16, 16, 1]⟩
abbrev S16x128x512 : Shape := ⟨3, ![16, 128, 512]⟩
abbrev S16x65536 : Shape := ⟨2, ![16, 65536]⟩
abbrev S1x1x16x65536 : Shape := ⟨4, ![1, 1, 16, 65536]⟩
abbrev S2x16x16x65536 : Shape := ⟨4, ![2, 16, 16, 65536]⟩
abbrev S2x16x65536 : Shape := ⟨3, ![2, 16, 65536]⟩
abbrev S4096x512 : Shape := ⟨2, ![4096, 512]⟩
abbrev S2x16 : Shape := ⟨2, ![2, 16]⟩
abbrev S2x16x1x1 : Shape := ⟨4, ![2, 16, 1, 1]⟩
abbrev S2x16x128x1 : Shape := ⟨4, ![2, 16, 128, 1]⟩
abbrev S4096x1 : Shape := ⟨2, ![4096, 1]⟩
abbrev S96x125x4 : Shape := ⟨3, ![96, 125, 4]⟩
abbrev S96x1x125x4 : Shape := ⟨4, ![96, 1, 125, 4]⟩
abbrev S1x16x1x4 : Shape := ⟨4, ![1, 16, 1, 4]⟩
abbrev S96x16x125x4 : Shape := ⟨4, ![96, 16, 125, 4]⟩
abbrev S96x16x125 : Shape := ⟨3, ![96, 16, 125]⟩
abbrev S96x16x128 : Shape := ⟨3, ![96, 16, 128]⟩
abbrev S96x2048 : Shape := ⟨2, ![96, 2048]⟩
abbrev S96x1 : Shape := ⟨2, ![96, 1]⟩
abbrev S96x4096 : Shape := ⟨2, ![96, 4096]⟩
abbrev S4x512x64 : Shape := ⟨3, ![4, 512, 64]⟩
abbrev S96x256 : Shape := ⟨2, ![96, 256]⟩
abbrev S1x512x64 : Shape := ⟨3, ![1, 512, 64]⟩
abbrev S512x64 : Shape := ⟨2, ![512, 64]⟩
abbrev S512x256 : Shape := ⟨2, ![512, 256]⟩
abbrev S4096x256 : Shape := ⟨2, ![4096, 256]⟩
abbrev S2048x256 : Shape := ⟨2, ![2048, 256]⟩
abbrev S128x256 : Shape := ⟨2, ![128, 256]⟩
abbrev S16x128x256 : Shape := ⟨3, ![16, 128, 256]⟩
abbrev S1x128x256 : Shape := ⟨3, ![1, 128, 256]⟩
abbrev S96x64x64 : Shape := ⟨3, ![96, 64, 64]⟩
abbrev S64x96x64 : Shape := ⟨3, ![64, 96, 64]⟩

abbrev nBuf : Space → Nat
  | .hbm => 273
  | .vmem => 11
  | .smem => 0
  | _ => 0

abbrev hbmTy0_0 (i : Nat) : BufTy := match i % 128 with
  | 0 => ⟨S64x512x64, .f32⟩
  | 1 => ⟨S2x4x3, .f32⟩
  | 2 => ⟨S96x500, .f32⟩
  | 3 => ⟨S96, .f32⟩
  | 4 => ⟨S16, .i32⟩
  | 5 => ⟨S16, .i1⟩
  | 6 => ⟨S16, .i1⟩
  | 7 => ⟨S16, .i32⟩
  | 8 => ⟨S16, .i1⟩
  | 9 => ⟨S16, .i1⟩
  | 10 => ⟨S16x4, .f32⟩
  | 11 => ⟨S128x512, .bf16⟩
  | 12 => ⟨S2x4x1, .f32⟩
  | 13 => ⟨S2x4, .f32⟩
  | 14 => ⟨S2x4x1, .f32⟩
  | 15 => ⟨S2x4, .f32⟩
  | 16 => ⟨S2x4x1, .f32⟩
  | 17 => ⟨S2x4, .f32⟩
  | 18 => ⟨S_, .f32⟩
  | 19 => ⟨S2x4, .f32⟩
  | 20 => ⟨S2x4, .f32⟩
  | 21 => ⟨S2x4, .f32⟩
  | 22 => ⟨S_, .f32⟩
  | 23 => ⟨S2x4, .f32⟩
  | 24 => ⟨S2x4, .f32⟩
  | 25 => ⟨S2x4, .f32⟩
  | 26 => ⟨S2x4, .f32⟩
  | 27 => ⟨S_, .f32⟩
  | 28 => ⟨S2x4, .f32⟩
  | 29 => ⟨S2x4, .f32⟩
  | 30 => ⟨S2x4, .f32⟩
  | 31 => ⟨S_, .f32⟩
  | 32 => ⟨S2x4, .f32⟩
  | 33 => ⟨S2x4, .f32⟩
  | 34 => ⟨S2x4, .f32⟩
  | 35 => ⟨S2x4, .f32⟩
  | 36 => ⟨S2x4, .f32⟩
  | 37 => ⟨S2x4, .f32⟩
  | 38 => ⟨S2x4, .f32⟩
  | 39 => ⟨S2x4, .f32⟩
  | 40 => ⟨S2x4, .f32⟩
  | 41 => ⟨S2x4, .f32⟩
  | 42 => ⟨S2x4, .f32⟩
  | 43 => ⟨S2x4, .f32⟩
  | 44 => ⟨S2x4, .f32⟩
  | 45 => ⟨S2x4, .f32⟩
  | 46 => ⟨S2x4, .f32⟩
  | 47 => ⟨S2x4, .f32⟩
  | 48 => ⟨S2x4, .f32⟩
  | 49 => ⟨S2x4, .f32⟩
  | 50 => ⟨S2x4, .f32⟩
  | 51 => ⟨S2x4, .f32⟩
  | 52 => ⟨S2x4, .f32⟩
  | 53 => ⟨S2x4, .f32⟩
  | 54 => ⟨S2x4x1, .f32⟩
  | 55 => ⟨S2x4x1, .f32⟩
  | 56 => ⟨S2x4x2, .f32⟩
  | 57 => ⟨S2x4x1, .f32⟩
  | 58 => ⟨S2x4x1, .f32⟩
  | 59 => ⟨S2x4x2, .f32⟩
  | 60 => ⟨S2x4x1x2, .f32⟩
  | 61 => ⟨S2x4x1x2, .f32⟩
  | 62 => ⟨S2x4x2x2, .f32⟩
  | 63 => ⟨S2x4x1, .f32⟩
  | 64 => ⟨S2x4x1, .f32⟩
  | 65 => ⟨S2x4x2, .f32⟩
  | 66 => ⟨S2x4x1, .f32⟩
  | 67 => ⟨S2x4x1, .f32⟩
  | 68 => ⟨S2x4x2, .f32⟩
  | 69 => ⟨S2x4x1x2, .f32⟩
  | 70 => ⟨S2x4x1x2, .f32⟩
  | 71 => ⟨S2x4x2x2, .f32⟩
  | 72 => ⟨S2x1x2x2, .f32⟩
  | 73 => ⟨S2x2x2, .f32⟩
  | 74 => ⟨S2x2x1x1x1x2x1x1x1, .f32⟩
  | 75 => ⟨S2x1x2x2, .f32⟩
  | 76 => ⟨S2x2x2, .f32⟩
  | 77 => ⟨S2x2x1x1x1x2x1x1x1, .f32⟩
  | 78 => ⟨S2x1x2x2, .f32⟩
  | 79 => ⟨S2x2x2, .f32⟩
  | 80 => ⟨S2x1x2x1x1x1x2x1x1, .f32⟩
  | 81 => ⟨S2x1x2x2, .f32⟩
  | 82 => ⟨S2x2x2, .f32⟩
  | 83 => ⟨S2x1x2x1x1x1x2x1x1, .f32⟩
  | 84 => ⟨S2x2x2x1x1x2x2x1x1, .f32⟩
  | 85 => ⟨S2x2x2x1x1x2x2x1x1, .f32⟩
  | 86 => ⟨S2x2x2x1x1x2x2x1x1, .f32⟩
  | 87 => ⟨S2x2x2x1x1x2x2x1x1, .f32⟩
  | 88 => ⟨S2x2x2x1x1x2x2x1x1, .f32⟩
  | 89 => ⟨S2x2x2x1x1x2x2x1x1, .f32⟩
  | 90 => ⟨S2x2x2x1x1x2x2x1x1, .f32⟩
  | 91 => ⟨S2x2x2x1x1x2x2x1x1, .f32⟩
  | 92 => ⟨S2x2x2x1x1x2x2x1x1, .f32⟩
  | 93 => ⟨S2x2x2x1x1x2x2x1x1, .f32⟩
  | 94 => ⟨S2x2x2x1x1x2x2x1x1, .f32⟩
  | 95 => ⟨S2x2x2x1x1x2x2x1x1, .f32⟩
  | 96 => ⟨S2x2x2x1x1x2x2x1x1, .f32⟩
  | 97 => ⟨S2x2x2x1x1x2x2x1x1, .f32⟩
  | 98 => ⟨S2x1x2x2, .f32⟩
  | 99 => ⟨S2x2x2, .f32⟩
  | 100 => ⟨S2x1x1x2x1x1x1x2x1, .f32⟩
  | 101 => ⟨S2x1x2x2, .f32⟩
  | 102 => ⟨S2x2x2, .f32⟩
  | 103 => ⟨S2x1x1x2x1x1x1x2x1, .f32⟩
  | 104 => ⟨S2x2x2x2x1x2x2x2x1, .f32⟩
  | 105 => ⟨S2x2x2x2x1x2x2x2x1, .f32⟩
  | 106 => ⟨S2x2x2x2x1x2x2x2x1, .f32⟩
  | 107 => ⟨S2x2x2x2x1x2x2x2x1, .f32⟩
  | 108 => ⟨S2x2x2x2x1x2x2x2x1, .f32⟩
  | 109 => ⟨S2x2x2x2x1x2x2x2x1, .f32⟩
  | 110 => ⟨S2x2x2x2x1x2x2x2x1, .f32⟩
  | 111 => ⟨S2x2x2x2x1x2x2x2x1, .f32⟩
  | 112 => ⟨S2x2x2x2x1x2x2x2x1, .f32⟩
  | 113 => ⟨S2x2x2x2x1x2x2x2x1, .f32⟩
  | 114 => ⟨S2x2x2x2x1x2x2x2x1, .f32⟩
  | 115 => ⟨S2x2x2x2x1x2x2x2x1, .f32⟩
  | 116 => ⟨S2x2x2x2x1x2x2x2x1, .f32⟩
  | 117 => ⟨S2x2x2x2x1x2x2x2x1, .f32⟩
  | 118 => ⟨S2x1x2x2, .f32⟩
  | 119 => ⟨S2x2x2, .f32⟩
  | 120 => ⟨S2x1x1x1x2x1x1x1x2, .f32⟩
  | 121 => ⟨S2x1x2x2, .f32⟩
  | 122 => ⟨S2x2x2, .f32⟩
  | 123 => ⟨S2x1x1x1x2x1x1x1x2, .f32⟩
  | 124 => ⟨S2x2x2x2x2x2x2x2x2, .f32⟩
  | 125 => ⟨S2x2x2x2x2x2x2x2x2, .f32⟩
  | 126 => ⟨S2x2x2x2x2x2x2x2x2, .f32⟩
  | 127 => ⟨S2x2x2x2x2x2x2x2x2, .f32⟩
  | _ => ⟨S64x512x64, .f32⟩

abbrev hbmTy0_1 (i : Nat) : BufTy := match i % 128 with
  | 0 => ⟨S2x2x2x2x2x2x2x2x2, .f32⟩
  | 1 => ⟨S2x2x2x2x2x2x2x2x2, .f32⟩
  | 2 => ⟨S2x2x2x2x2x2x2x2x2, .f32⟩
  | 3 => ⟨S2x2x2x2x2x2x2x2x2, .f32⟩
  | 4 => ⟨S2x2x2x2x2x2x2x2x2, .f32⟩
  | 5 => ⟨S2x2x2x2x2x2x2x2x2, .f32⟩
  | 6 => ⟨S2x2x2x2x2x2x2x2x2, .f32⟩
  | 7 => ⟨S2x2x2x2x2x2x2x2x2, .f32⟩
  | 8 => ⟨S2x2x2x2x2x2x2x2x2, .f32⟩
  | 9 => ⟨S2x2x2x2x2x2x2x2x2, .f32⟩
  | 10 => ⟨S2x16x16, .f32⟩
  | 11 => ⟨S2x16x16, .f32⟩
  | 12 => ⟨S1x16x16, .f32⟩
  | 13 => ⟨S16x16, .f32⟩
  | 14 => ⟨S_, .i32⟩
  | 15 => ⟨S16, .i32⟩
  | 16 => ⟨S16, .i32⟩
  | 17 => ⟨S16, .i32⟩
  | 18 => ⟨S16x1, .i32⟩
  | 19 => ⟨S16x16, .f32⟩
  | 20 => ⟨S1x16x16, .f32⟩
  | 21 => ⟨S16x16, .f32⟩
  | 22 => ⟨S_, .i32⟩
  | 23 => ⟨S16, .i32⟩
  | 24 => ⟨S16, .i32⟩
  | 25 => ⟨S16, .i32⟩
  | 26 => ⟨S16x1, .i32⟩
  | 27 => ⟨S16x16, .f32⟩
  | 28 => ⟨S1x16x16, .f32⟩
  | 29 => ⟨S16x16, .f32⟩
  | 30 => ⟨S_, .i32⟩
  | 31 => ⟨S16, .i32⟩
  | 32 => ⟨S16, .i32⟩
  | 33 => ⟨S16, .i32⟩
  | 34 => ⟨S16x1, .i32⟩
  | 35 => ⟨S16x16, .f32⟩
  | 36 => ⟨S1x16x16, .f32⟩
  | 37 => ⟨S16x16, .f32⟩
  | 38 => ⟨S_, .i32⟩
  | 39 => ⟨S16, .i32⟩
  | 40 => ⟨S16, .i32⟩
  | 41 => ⟨S16, .i32⟩
  | 42 => ⟨S16x1, .i32⟩
  | 43 => ⟨S16x16, .f32⟩
  | 44 => ⟨S16x16, .f32⟩
  | 45 => ⟨S16x16, .f32⟩
  | 46 => ⟨S16x16, .f32⟩
  | 47 => ⟨S16x16, .f32⟩
  | 48 => ⟨S16x16, .f32⟩
  | 49 => ⟨S16x16, .f32⟩
  | 50 => ⟨S1x16x16, .f32⟩
  | 51 => ⟨S1x16x16, .f32⟩
  | 52 => ⟨S2x16x16, .f32⟩
  | 53 => ⟨S2x16x16, .bf16⟩
  | 54 => ⟨S2x16x16, .f32⟩
  | 55 => ⟨S2x16x16, .f32⟩
  | 56 => ⟨S2x16x16, .bf16⟩
  | 57 => ⟨S2x16x16, .f32⟩
  | 58 => ⟨S2x16x16x1, .f32⟩
  | 59 => ⟨S16x128x512, .i32⟩
  | 60 => ⟨S16x128x512, .i32⟩
  | 61 => ⟨S16x128x512, .i32⟩
  | 62 => ⟨S_, .i32⟩
  | 63 => ⟨S16x128x512, .i32⟩
  | 64 => ⟨S16x128x512, .i1⟩
  | 65 => ⟨S_, .i32⟩
  | 66 => ⟨S16x128x512, .i32⟩
  | 67 => ⟨S16x128x512, .i32⟩
  | 68 => ⟨S16x128x512, .i32⟩
  | 69 => ⟨S16x128x512, .i1⟩
  | 70 => ⟨S16x128x512, .i1⟩
  | 71 => ⟨S_, .f32⟩
  | 72 => ⟨S_, .f32⟩
  | 73 => ⟨S16x128x512, .f32⟩
  | 74 => ⟨S16x128x512, .f32⟩
  | 75 => ⟨S16x128x512, .f32⟩
  | 76 => ⟨S16x128x512, .bf16⟩
  | 77 => ⟨S16x65536, .bf16⟩
  | 78 => ⟨S16x65536, .f32⟩
  | 79 => ⟨S1x1x16x65536, .f32⟩
  | 80 => ⟨S2x16x16x65536, .f32⟩
  | 81 => ⟨S2x16x16x65536, .f32⟩
  | 82 => ⟨S2x16x16x65536, .f32⟩
  | 83 => ⟨S_, .f32⟩
  | 84 => ⟨S2x16x65536, .f32⟩
  | 85 => ⟨S4096x512, .f32⟩
  | 86 => ⟨S4096x512, .bf16⟩
  | 87 => ⟨S2x16x16, .f32⟩
  | 88 => ⟨S2x16x16x1, .f32⟩
  | 89 => ⟨S16x128x512, .i32⟩
  | 90 => ⟨S16x128x512, .i32⟩
  | 91 => ⟨S16x128x512, .i32⟩
  | 92 => ⟨S_, .i32⟩
  | 93 => ⟨S16x128x512, .i32⟩
  | 94 => ⟨S16x128x512, .i1⟩
  | 95 => ⟨S_, .i32⟩
  | 96 => ⟨S16x128x512, .i32⟩
  | 97 => ⟨S16x128x512, .i32⟩
  | 98 => ⟨S16x128x512, .i32⟩
  | 99 => ⟨S16x128x512, .i1⟩
  | 100 => ⟨S16x128x512, .i1⟩
  | 101 => ⟨S_, .f32⟩
  | 102 => ⟨S_, .f32⟩
  | 103 => ⟨S16x128x512, .f32⟩
  | 104 => ⟨S16x128x512, .f32⟩
  | 105 => ⟨S16x128x512, .f32⟩
  | 106 => ⟨S16x128x512, .bf16⟩
  | 107 => ⟨S16x65536, .bf16⟩
  | 108 => ⟨S16x65536, .f32⟩
  | 109 => ⟨S1x1x16x65536, .f32⟩
  | 110 => ⟨S2x16x16x65536, .f32⟩
  | 111 => ⟨S2x16x16x65536, .f32⟩
  | 112 => ⟨S2x16x16x65536, .f32⟩
  | 113 => ⟨S_, .f32⟩
  | 114 => ⟨S2x16x65536, .f32⟩
  | 115 => ⟨S4096x512, .f32⟩
  | 116 => ⟨S4096x512, .bf16⟩
  | 117 => ⟨S_, .f32⟩
  | 118 => ⟨S2x16, .f32⟩
  | 119 => ⟨S_, .f32⟩
  | 120 => ⟨S2x16, .f32⟩
  | 121 => ⟨S2x16, .f32⟩
  | 122 => ⟨S2x16x1x1, .f32⟩
  | 123 => ⟨S2x16x128x1, .f32⟩
  | 124 => ⟨S4096x1, .f32⟩
  | 125 => ⟨S96x125x4, .f32⟩
  | 126 => ⟨S96x1x125x4, .f32⟩
  | 127 => ⟨S1x16x1x4, .f32⟩
  | _ => ⟨S64x512x64, .f32⟩

abbrev hbmTy0_2 (i : Nat) : BufTy := match i % 128 with
  | 0 => ⟨S96x16x125x4, .f32⟩
  | 1 => ⟨S96x16x125x4, .f32⟩
  | 2 => ⟨S96x16x125x4, .f32⟩
  | 3 => ⟨S_, .f32⟩
  | 4 => ⟨S96x16x125, .f32⟩
  | 5 => ⟨S_, .i32⟩
  | 6 => ⟨S_, .f32⟩
  | 7 => ⟨S96x16x128, .f32⟩
  | 8 => ⟨S96x2048, .f32⟩
  | 9 => ⟨S96x1, .f32⟩
  | 10 => ⟨S96x2048, .bf16⟩
  | 11 => ⟨S96x2048, .f32⟩
  | 12 => ⟨S96x2048, .f32⟩
  | 13 => ⟨S96x2048, .bf16⟩
  | 14 => ⟨S96x4096, .f32⟩
  | 15 => ⟨S96x64x64, .f32⟩
  | 16 => ⟨S64x96x64, .f32⟩
  | _ => ⟨S64x512x64, .f32⟩

abbrev hbmTy (i : Nat) : BufTy := match i / 128 with
  | 0 => hbmTy0_0 i
  | 1 => hbmTy0_1 i
  | 2 => hbmTy0_2 i
  | _ => ⟨S64x512x64, .f32⟩

abbrev bufTy : (tb : Table) → Fin (tcTables nBuf tb) → BufTy
  | .hbm, ⟨i, _⟩ => hbmTy i
  | .local _ .vmem, ⟨0, _⟩ => ⟨S4x512x64, .f32⟩
  | .local _ .vmem, ⟨1, _⟩ => ⟨S4x512x64, .f32⟩
  | .local _ .vmem, ⟨2, _⟩ => ⟨S4096x512, .bf16⟩
  | .local _ .vmem, ⟨3, _⟩ => ⟨S4096x512, .bf16⟩
  | .local _ .vmem, ⟨4, _⟩ => ⟨S128x512, .bf16⟩
  | .local _ .vmem, ⟨5, _⟩ => ⟨S96x2048, .bf16⟩
  | .local _ .vmem, ⟨6, _⟩ => ⟨S96x2048, .bf16⟩
  | .local _ .vmem, ⟨7, _⟩ => ⟨S4096x1, .f32⟩
  | .local _ .vmem, ⟨8, _⟩ => ⟨S96x1, .f32⟩
  | .local _ .vmem, ⟨9, _⟩ => ⟨S96x256, .f32⟩
  | .local _ .vmem, ⟨10, _⟩ => ⟨S96x256, .f32⟩
  | _, _ => ⟨S64x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_c_4 : Ref sig .tc := ⟨.hbm, 9, rfl⟩
abbrev main_cst : Ref sig .tc := ⟨.hbm, 10, rfl⟩
abbrev main_cst_5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_6 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_7 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_8 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_9 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_c_10 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_c_11 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_c_12 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_c_13 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_c_14 : Ref sig .tc := ⟨.hbm, 190, rfl⟩
abbrev main_v170 : Ref sig .tc := ⟨.hbm, 191, rfl⟩
abbrev main_v171 : Ref sig .tc := ⟨.hbm, 192, rfl⟩
abbrev main_c_15 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_cst_16 : Ref sig .tc := ⟨.hbm, 199, rfl⟩
abbrev main_cst_17 : Ref sig .tc := ⟨.hbm, 200, rfl⟩
abbrev main_call0_v0 : Ref sig .tc := ⟨.hbm, 201, rfl⟩
abbrev main_call0_v1 : Ref sig .tc := ⟨.hbm, 202, rfl⟩
abbrev main_v177 : Ref sig .tc := ⟨.hbm, 203, rfl⟩
abbrev main_v178 : Ref sig .tc := ⟨.hbm, 204, rfl⟩
abbrev main_v179 : Ref sig .tc := ⟨.hbm, 205, rfl⟩
abbrev main_v180 : Ref sig .tc := ⟨.hbm, 206, rfl⟩
abbrev main_v181 : Ref sig .tc := ⟨.hbm, 207, rfl⟩
abbrev main_v182 : Ref sig .tc := ⟨.hbm, 208, rfl⟩
abbrev main_v183 : Ref sig .tc := ⟨.hbm, 209, rfl⟩
abbrev main_v184 : Ref sig .tc := ⟨.hbm, 210, rfl⟩
abbrev main_cst_18 : Ref sig .tc := ⟨.hbm, 211, rfl⟩
abbrev main_v185 : Ref sig .tc := ⟨.hbm, 212, rfl⟩
abbrev main_v186 : Ref sig .tc := ⟨.hbm, 213, rfl⟩
abbrev main_v187 : Ref sig .tc := ⟨.hbm, 214, rfl⟩
abbrev main_v188 : Ref sig .tc := ⟨.hbm, 215, rfl⟩
abbrev main_v189 : Ref sig .tc := ⟨.hbm, 216, rfl⟩
abbrev main_v190 : Ref sig .tc := ⟨.hbm, 217, rfl⟩
abbrev main_v191 : Ref sig .tc := ⟨.hbm, 218, rfl⟩
abbrev main_v192 : Ref sig .tc := ⟨.hbm, 219, rfl⟩
abbrev main_c_19 : Ref sig .tc := ⟨.hbm, 220, rfl⟩
abbrev main_v193 : Ref sig .tc := ⟨.hbm, 221, rfl⟩
abbrev main_v194 : Ref sig .tc := ⟨.hbm, 222, rfl⟩
abbrev main_c_20 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_v199 : Ref sig .tc := ⟨.hbm, 228, rfl⟩
abbrev main_cst_21 : Ref sig .tc := ⟨.hbm, 229, rfl⟩
abbrev main_cst_22 : Ref sig .tc := ⟨.hbm, 230, rfl⟩
abbrev main_call1_v0 : Ref sig .tc := ⟨.hbm, 231, rfl⟩
abbrev main_call1_v1 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_v203 : Ref sig .tc := ⟨.hbm, 236, rfl⟩
abbrev main_v204 : Ref sig .tc := ⟨.hbm, 237, rfl⟩
abbrev main_v205 : Ref sig .tc := ⟨.hbm, 238, rfl⟩
abbrev main_v206 : Ref sig .tc := ⟨.hbm, 239, rfl⟩
abbrev main_v207 : Ref sig .tc := ⟨.hbm, 240, rfl⟩
abbrev main_cst_23 : Ref sig .tc := ⟨.hbm, 241, rfl⟩
abbrev main_v208 : Ref sig .tc := ⟨.hbm, 242, rfl⟩
abbrev main_v209 : Ref sig .tc := ⟨.hbm, 243, rfl⟩
abbrev main_v210 : Ref sig .tc := ⟨.hbm, 244, rfl⟩
abbrev main_cst_24 : Ref sig .tc := ⟨.hbm, 245, rfl⟩
abbrev main_v211 : Ref sig .tc := ⟨.hbm, 246, rfl⟩
abbrev main_cst_25 : Ref sig .tc := ⟨.hbm, 247, rfl⟩
abbrev main_v212 : Ref sig .tc := ⟨.hbm, 248, rfl⟩
abbrev main_v213 : Ref sig .tc := ⟨.hbm, 249, rfl⟩
abbrev main_v214 : Ref sig .tc := ⟨.hbm, 250, rfl⟩
abbrev main_v215 : Ref sig .tc := ⟨.hbm, 251, rfl⟩
abbrev main_v216 : Ref sig .tc := ⟨.hbm, 252, rfl⟩
abbrev main_v217 : Ref sig .tc := ⟨.hbm, 253, rfl⟩
abbrev main_v218 : Ref sig .tc := ⟨.hbm, 254, rfl⟩
abbrev main_v219 : Ref sig .tc := ⟨.hbm, 255, rfl⟩
abbrev main_v220 : Ref sig .tc := ⟨.hbm, 256, rfl⟩
abbrev main_v221 : Ref sig .tc := ⟨.hbm, 257, rfl⟩
abbrev main_v222 : Ref sig .tc := ⟨.hbm, 258, rfl⟩
abbrev main_cst_26 : Ref sig .tc := ⟨.hbm, 259, rfl⟩
abbrev main_v223 : Ref sig .tc := ⟨.hbm, 260, rfl⟩
abbrev main_c_27 : Ref sig .tc := ⟨.hbm, 261, rfl⟩
abbrev main_call2_v0 : Ref sig .tc := ⟨.hbm, 262, rfl⟩
abbrev main_v224 : Ref sig .tc := ⟨.hbm, 263, rfl⟩
abbrev main_v225 : Ref sig .tc := ⟨.hbm, 264, rfl⟩
abbrev main_v226 : Ref sig .tc := ⟨.hbm, 265, rfl⟩
abbrev main_v227 : Ref sig .tc := ⟨.hbm, 266, rfl⟩
abbrev main_v228 : Ref sig .tc := ⟨.hbm, 267, rfl⟩
abbrev main_v229 : Ref sig .tc := ⟨.hbm, 268, rfl⟩
abbrev main_v230 : Ref sig .tc := ⟨.hbm, 269, rfl⟩
abbrev main_v231 : Ref sig .tc := ⟨.hbm, 270, rfl⟩
abbrev main_v232 : Ref sig .tc := ⟨.hbm, 271, rfl⟩
abbrev main_v233 : Ref sig .tc := ⟨.hbm, 272, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S96x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S96x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S96x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "patch_eps2" => some ((77371252064649 / 4835703278458516698824704 : ℝ) : EReal)
  | _ => none
-- ==== ReferenceIdeal.lean ====
abbrev S64x512x64 : Shape := ⟨3, ![64, 512, 64]⟩
abbrev S2x4x3 : Shape := ⟨3, ![2, 4, 3]⟩
abbrev S96x500 : Shape := ⟨2, ![96, 500]⟩
abbrev S96 : Shape := ⟨1, ![96]⟩
abbrev S64x64x512 : Shape := ⟨3, ![64, 64, 512]⟩
abbrev S4096x512 : Shape := ⟨2, ![4096, 512]⟩
abbrev S125 : Shape := ⟨1, ![125]⟩
abbrev S125x1 : Shape := ⟨2, ![125, 1]⟩
abbrev S_ : Shape := ⟨0, ![]⟩
abbrev S16 : Shape := ⟨1, ![16]⟩
abbrev S1x16 : Shape := ⟨2, ![1, 16]⟩
abbrev S125x16 : Shape := ⟨2, ![125, 16]⟩
abbrev S125x16x1 : Shape := ⟨3, ![125, 16, 1]⟩
abbrev S4096x125x16 : Shape := ⟨3, ![4096, 125, 16]⟩
abbrev S512000x16 : Shape := ⟨2, ![512000, 16]⟩
abbrev S512000 : Shape := ⟨1, ![512000]⟩
abbrev S512000x1 : Shape := ⟨2, ![512000, 1]⟩
abbrev S512000x2x2x2x2 : Shape := ⟨5, ![512000, 2, 2, 2, 2]⟩
abbrev S2x4x1 : Shape := ⟨3, ![2, 4, 1]⟩
abbrev S2x4 : Shape := ⟨2, ![2, 4]⟩
abbrev S2x4x2 : Shape := ⟨3, ![2, 4, 2]⟩
abbrev S2x4x1x2 : Shape := ⟨4, ![2, 4, 1, 2]⟩
abbrev S2x4x2x2 : Shape := ⟨4, ![2, 4, 2, 2]⟩
abbrev S1x1x2x2 : Shape := ⟨4, ![1, 1, 2, 2]⟩
abbrev S2x2 : Shape := ⟨2, ![2, 2]⟩
abbrev S2 : Shape := ⟨1, ![2]⟩
abbrev S1x2x1x1x1 : Shape := ⟨5, ![1, 2, 1, 1, 1]⟩
abbrev S1x1x2x1x1 : Shape := ⟨5, ![1, 1, 2, 1, 1]⟩
abbrev S1x1x1x2x1 : Shape := ⟨5, ![1, 1, 1, 2, 1]⟩
abbrev S1x1x1x1x2 : Shape := ⟨5, ![1, 1, 1, 1, 2]⟩
abbrev S16x1 : Shape := ⟨2, ![16, 1]⟩
abbrev S4 : Shape := ⟨1, ![4]⟩
abbrev S1x4 : Shape := ⟨2, ![1, 4]⟩
abbrev S16x4 : Shape := ⟨2, ![16, 4]⟩
abbrev S512000x4 : Shape := ⟨2, ![512000, 4]⟩
abbrev S4096x500 : Shape := ⟨2, ![4096, 500]⟩
abbrev S500x96 : Shape := ⟨2, ![500, 96]⟩
abbrev S4096x96 : Shape := ⟨2, ![4096, 96]⟩
abbrev S1x96 : Shape := ⟨2, ![1, 96]⟩
abbrev S64x64x96 : Shape := ⟨3, ![64, 64, 96]⟩
abbrev S64x96x64 : Shape := ⟨3, ![64, 96, 64]⟩

abbrev nBuf : Space → Nat
  | .hbm => 359
  | .vmem => 0
  | .smem => 0
  | _ => 0

abbrev hbmTy0_0 (i : Nat) : BufTy := match i % 128 with
  | 0 => ⟨S64x512x64, .f32⟩
  | 1 => ⟨S2x4x3, .f32⟩
  | 2 => ⟨S96x500, .f32⟩
  | 3 => ⟨S96, .f32⟩
  | 4 => ⟨S64x64x512, .f32⟩
  | 5 => ⟨S4096x512, .f32⟩
  | 6 => ⟨S125, .i32⟩
  | 7 => ⟨S125x1, .i32⟩
  | 8 => ⟨S_, .i32⟩
  | 9 => ⟨S125x1, .i32⟩
  | 10 => ⟨S125x1, .i32⟩
  | 11 => ⟨S16, .i32⟩
  | 12 => ⟨S1x16, .i32⟩
  | 13 => ⟨S125x16, .i32⟩
  | 14 => ⟨S125x16, .i32⟩
  | 15 => ⟨S125x16, .i32⟩
  | 16 => ⟨S_, .i32⟩
  | 17 => ⟨S125x16, .i32⟩
  | 18 => ⟨S125x16, .i1⟩
  | 19 => ⟨S_, .i32⟩
  | 20 => ⟨S125x16, .i32⟩
  | 21 => ⟨S125x16, .i32⟩
  | 22 => ⟨S125x16, .i32⟩
  | 23 => ⟨S125x16x1, .i32⟩
  | 24 => ⟨S4096x125x16, .f32⟩
  | 25 => ⟨S512000x16, .f32⟩
  | 26 => ⟨S_, .f32⟩
  | 27 => ⟨S512000x16, .f32⟩
  | 28 => ⟨S512000x16, .f32⟩
  | 29 => ⟨S512000x16, .f32⟩
  | 30 => ⟨S_, .f32⟩
  | 31 => ⟨S512000, .f32⟩
  | 32 => ⟨S512000x1, .f32⟩
  | 33 => ⟨S512000x1, .f32⟩
  | 34 => ⟨S512000x16, .f32⟩
  | 35 => ⟨S512000x16, .f32⟩
  | 36 => ⟨S512000x2x2x2x2, .f32⟩
  | 37 => ⟨S_, .f32⟩
  | 38 => ⟨S512000x2x2x2x2, .f32⟩
  | 39 => ⟨S2x4x1, .f32⟩
  | 40 => ⟨S2x4, .f32⟩
  | 41 => ⟨S2x4x1, .f32⟩
  | 42 => ⟨S2x4, .f32⟩
  | 43 => ⟨S2x4x1, .f32⟩
  | 44 => ⟨S2x4, .f32⟩
  | 45 => ⟨S_, .f32⟩
  | 46 => ⟨S2x4, .f32⟩
  | 47 => ⟨S2x4, .f32⟩
  | 48 => ⟨S2x4, .f32⟩
  | 49 => ⟨S_, .f32⟩
  | 50 => ⟨S2x4, .f32⟩
  | 51 => ⟨S2x4, .f32⟩
  | 52 => ⟨S2x4, .f32⟩
  | 53 => ⟨S2x4, .f32⟩
  | 54 => ⟨S_, .f32⟩
  | 55 => ⟨S2x4, .f32⟩
  | 56 => ⟨S2x4, .f32⟩
  | 57 => ⟨S2x4, .f32⟩
  | 58 => ⟨S_, .f32⟩
  | 59 => ⟨S2x4, .f32⟩
  | 60 => ⟨S2x4, .f32⟩
  | 61 => ⟨S2x4, .f32⟩
  | 62 => ⟨S2x4, .f32⟩
  | 63 => ⟨S2x4, .f32⟩
  | 64 => ⟨S2x4, .f32⟩
  | 65 => ⟨S2x4, .f32⟩
  | 66 => ⟨S2x4, .f32⟩
  | 67 => ⟨S2x4, .f32⟩
  | 68 => ⟨S2x4, .f32⟩
  | 69 => ⟨S2x4, .f32⟩
  | 70 => ⟨S2x4, .f32⟩
  | 71 => ⟨S2x4, .f32⟩
  | 72 => ⟨S2x4x1, .f32⟩
  | 73 => ⟨S2x4x1, .f32⟩
  | 74 => ⟨S2x4x2, .f32⟩
  | 75 => ⟨S2x4x1, .f32⟩
  | 76 => ⟨S2x4x1, .f32⟩
  | 77 => ⟨S2x4x2, .f32⟩
  | 78 => ⟨S2x4x1x2, .f32⟩
  | 79 => ⟨S2x4x1x2, .f32⟩
  | 80 => ⟨S2x4x2x2, .f32⟩
  | 81 => ⟨S2x4, .f32⟩
  | 82 => ⟨S2x4, .f32⟩
  | 83 => ⟨S2x4, .f32⟩
  | 84 => ⟨S2x4, .f32⟩
  | 85 => ⟨S2x4, .f32⟩
  | 86 => ⟨S2x4, .f32⟩
  | 87 => ⟨S2x4, .f32⟩
  | 88 => ⟨S2x4, .f32⟩
  | 89 => ⟨S2x4, .f32⟩
  | 90 => ⟨S2x4, .f32⟩
  | 91 => ⟨S2x4, .f32⟩
  | 92 => ⟨S2x4x1, .f32⟩
  | 93 => ⟨S2x4x1, .f32⟩
  | 94 => ⟨S2x4x2, .f32⟩
  | 95 => ⟨S2x4x1, .f32⟩
  | 96 => ⟨S2x4x1, .f32⟩
  | 97 => ⟨S2x4x2, .f32⟩
  | 98 => ⟨S2x4x1x2, .f32⟩
  | 99 => ⟨S2x4x1x2, .f32⟩
  | 100 => ⟨S2x4x2x2, .f32⟩
  | 101 => ⟨S1x1x2x2, .f32⟩
  | 102 => ⟨S2x2, .f32⟩
  | 103 => ⟨S1x1x2x2, .f32⟩
  | 104 => ⟨S2x2, .f32⟩
  | 105 => ⟨S512000x2x2x2x2, .f32⟩
  | 106 => ⟨S512000x2x2x2x2, .f32⟩
  | 107 => ⟨S2x2, .f32⟩
  | 108 => ⟨S512000x2x2x2x2, .f32⟩
  | 109 => ⟨S2x2, .f32⟩
  | 110 => ⟨S512000x2x2x2x2, .f32⟩
  | 111 => ⟨S512000x2x2x2x2, .f32⟩
  | 112 => ⟨S2x2, .f32⟩
  | 113 => ⟨S512000x2x2x2x2, .f32⟩
  | 114 => ⟨S2x2, .f32⟩
  | 115 => ⟨S512000x2x2x2x2, .f32⟩
  | 116 => ⟨S512000x2x2x2x2, .f32⟩
  | 117 => ⟨S512000x2x2x2x2, .f32⟩
  | 118 => ⟨S512000x2x2x2x2, .f32⟩
  | 119 => ⟨S1x1x2x2, .f32⟩
  | 120 => ⟨S2x2, .f32⟩
  | 121 => ⟨S1x1x2x2, .f32⟩
  | 122 => ⟨S2x2, .f32⟩
  | 123 => ⟨S512000x2x2x2x2, .f32⟩
  | 124 => ⟨S512000x2x2x2x2, .f32⟩
  | 125 => ⟨S2x2, .f32⟩
  | 126 => ⟨S512000x2x2x2x2, .f32⟩
  | 127 => ⟨S2x2, .f32⟩
  | _ => ⟨S64x512x64, .f32⟩

abbrev hbmTy0_1 (i : Nat) : BufTy := match i % 128 with
  | 0 => ⟨S512000x2x2x2x2, .f32⟩
  | 1 => ⟨S512000x2x2x2x2, .f32⟩
  | 2 => ⟨S2x2, .f32⟩
  | 3 => ⟨S512000x2x2x2x2, .f32⟩
  | 4 => ⟨S2x2, .f32⟩
  | 5 => ⟨S512000x2x2x2x2, .f32⟩
  | 6 => ⟨S512000x2x2x2x2, .f32⟩
  | 7 => ⟨S512000x2x2x2x2, .f32⟩
  | 8 => ⟨S512000x2x2x2x2, .f32⟩
  | 9 => ⟨S1x1x2x2, .f32⟩
  | 10 => ⟨S2x2, .f32⟩
  | 11 => ⟨S1x1x2x2, .f32⟩
  | 12 => ⟨S2x2, .f32⟩
  | 13 => ⟨S512000x2x2x2x2, .f32⟩
  | 14 => ⟨S512000x2x2x2x2, .f32⟩
  | 15 => ⟨S2x2, .f32⟩
  | 16 => ⟨S512000x2x2x2x2, .f32⟩
  | 17 => ⟨S2x2, .f32⟩
  | 18 => ⟨S512000x2x2x2x2, .f32⟩
  | 19 => ⟨S512000x2x2x2x2, .f32⟩
  | 20 => ⟨S2x2, .f32⟩
  | 21 => ⟨S512000x2x2x2x2, .f32⟩
  | 22 => ⟨S2x2, .f32⟩
  | 23 => ⟨S512000x2x2x2x2, .f32⟩
  | 24 => ⟨S512000x2x2x2x2, .f32⟩
  | 25 => ⟨S512000x2x2x2x2, .f32⟩
  | 26 => ⟨S512000x2x2x2x2, .f32⟩
  | 27 => ⟨S1x1x2x2, .f32⟩
  | 28 => ⟨S2x2, .f32⟩
  | 29 => ⟨S1x1x2x2, .f32⟩
  | 30 => ⟨S2x2, .f32⟩
  | 31 => ⟨S2x2, .f32⟩
  | 32 => ⟨S512000x2x2x2x2, .f32⟩
  | 33 => ⟨S2x2, .f32⟩
  | 34 => ⟨S512000x2x2x2x2, .f32⟩
  | 35 => ⟨S512000x2x2x2x2, .f32⟩
  | 36 => ⟨S2x2, .f32⟩
  | 37 => ⟨S512000x2x2x2x2, .f32⟩
  | 38 => ⟨S2x2, .f32⟩
  | 39 => ⟨S512000x2x2x2x2, .f32⟩
  | 40 => ⟨S512000x2x2x2x2, .f32⟩
  | 41 => ⟨S2, .i32⟩
  | 42 => ⟨S_, .i32⟩
  | 43 => ⟨S2, .i32⟩
  | 44 => ⟨S2, .i1⟩
  | 45 => ⟨S1x2x1x1x1, .i1⟩
  | 46 => ⟨S512000x2x2x2x2, .f32⟩
  | 47 => ⟨S512000x2x2x2x2, .i1⟩
  | 48 => ⟨S512000x2x2x2x2, .f32⟩
  | 49 => ⟨S512000x2x2x2x2, .f32⟩
  | 50 => ⟨S512000x2x2x2x2, .i1⟩
  | 51 => ⟨S512000x2x2x2x2, .f32⟩
  | 52 => ⟨S2, .i32⟩
  | 53 => ⟨S_, .i32⟩
  | 54 => ⟨S2, .i32⟩
  | 55 => ⟨S2, .i1⟩
  | 56 => ⟨S1x1x2x1x1, .i1⟩
  | 57 => ⟨S512000x2x2x2x2, .f32⟩
  | 58 => ⟨S512000x2x2x2x2, .i1⟩
  | 59 => ⟨S512000x2x2x2x2, .f32⟩
  | 60 => ⟨S512000x2x2x2x2, .f32⟩
  | 61 => ⟨S512000x2x2x2x2, .i1⟩
  | 62 => ⟨S512000x2x2x2x2, .f32⟩
  | 63 => ⟨S2, .i32⟩
  | 64 => ⟨S_, .i32⟩
  | 65 => ⟨S2, .i32⟩
  | 66 => ⟨S2, .i1⟩
  | 67 => ⟨S1x1x1x2x1, .i1⟩
  | 68 => ⟨S512000x2x2x2x2, .f32⟩
  | 69 => ⟨S512000x2x2x2x2, .i1⟩
  | 70 => ⟨S512000x2x2x2x2, .f32⟩
  | 71 => ⟨S512000x2x2x2x2, .f32⟩
  | 72 => ⟨S512000x2x2x2x2, .i1⟩
  | 73 => ⟨S512000x2x2x2x2, .f32⟩
  | 74 => ⟨S2, .i32⟩
  | 75 => ⟨S_, .i32⟩
  | 76 => ⟨S2, .i32⟩
  | 77 => ⟨S2, .i1⟩
  | 78 => ⟨S1x1x1x1x2, .i1⟩
  | 79 => ⟨S512000x2x2x2x2, .f32⟩
  | 80 => ⟨S512000x2x2x2x2, .i1⟩
  | 81 => ⟨S512000x2x2x2x2, .f32⟩
  | 82 => ⟨S512000x2x2x2x2, .f32⟩
  | 83 => ⟨S512000x2x2x2x2, .i1⟩
  | 84 => ⟨S512000x2x2x2x2, .f32⟩
  | 85 => ⟨S1x1x2x2, .f32⟩
  | 86 => ⟨S2x2, .f32⟩
  | 87 => ⟨S1x1x2x2, .f32⟩
  | 88 => ⟨S2x2, .f32⟩
  | 89 => ⟨S512000x2x2x2x2, .f32⟩
  | 90 => ⟨S512000x2x2x2x2, .f32⟩
  | 91 => ⟨S2x2, .f32⟩
  | 92 => ⟨S512000x2x2x2x2, .f32⟩
  | 93 => ⟨S2x2, .f32⟩
  | 94 => ⟨S512000x2x2x2x2, .f32⟩
  | 95 => ⟨S512000x2x2x2x2, .f32⟩
  | 96 => ⟨S2x2, .f32⟩
  | 97 => ⟨S512000x2x2x2x2, .f32⟩
  | 98 => ⟨S2x2, .f32⟩
  | 99 => ⟨S512000x2x2x2x2, .f32⟩
  | 100 => ⟨S512000x2x2x2x2, .f32⟩
  | 101 => ⟨S512000x2x2x2x2, .f32⟩
  | 102 => ⟨S512000x2x2x2x2, .f32⟩
  | 103 => ⟨S1x1x2x2, .f32⟩
  | 104 => ⟨S2x2, .f32⟩
  | 105 => ⟨S1x1x2x2, .f32⟩
  | 106 => ⟨S2x2, .f32⟩
  | 107 => ⟨S512000x2x2x2x2, .f32⟩
  | 108 => ⟨S512000x2x2x2x2, .f32⟩
  | 109 => ⟨S2x2, .f32⟩
  | 110 => ⟨S512000x2x2x2x2, .f32⟩
  | 111 => ⟨S2x2, .f32⟩
  | 112 => ⟨S512000x2x2x2x2, .f32⟩
  | 113 => ⟨S512000x2x2x2x2, .f32⟩
  | 114 => ⟨S2x2, .f32⟩
  | 115 => ⟨S512000x2x2x2x2, .f32⟩
  | 116 => ⟨S2x2, .f32⟩
  | 117 => ⟨S512000x2x2x2x2, .f32⟩
  | 118 => ⟨S512000x2x2x2x2, .f32⟩
  | 119 => ⟨S512000x2x2x2x2, .f32⟩
  | 120 => ⟨S512000x2x2x2x2, .f32⟩
  | 121 => ⟨S1x1x2x2, .f32⟩
  | 122 => ⟨S2x2, .f32⟩
  | 123 => ⟨S1x1x2x2, .f32⟩
  | 124 => ⟨S2x2, .f32⟩
  | 125 => ⟨S512000x2x2x2x2, .f32⟩
  | 126 => ⟨S512000x2x2x2x2, .f32⟩
  | 127 => ⟨S2x2, .f32⟩
  | _ => ⟨S64x512x64, .f32⟩

abbrev hbmTy0_2 (i : Nat) : BufTy := match i % 128 with
  | 0 => ⟨S512000x2x2x2x2, .f32⟩
  | 1 => ⟨S2x2, .f32⟩
  | 2 => ⟨S512000x2x2x2x2, .f32⟩
  | 3 => ⟨S512000x2x2x2x2, .f32⟩
  | 4 => ⟨S2x2, .f32⟩
  | 5 => ⟨S512000x2x2x2x2, .f32⟩
  | 6 => ⟨S2x2, .f32⟩
  | 7 => ⟨S512000x2x2x2x2, .f32⟩
  | 8 => ⟨S512000x2x2x2x2, .f32⟩
  | 9 => ⟨S512000x2x2x2x2, .f32⟩
  | 10 => ⟨S512000x2x2x2x2, .f32⟩
  | 11 => ⟨S1x1x2x2, .f32⟩
  | 12 => ⟨S2x2, .f32⟩
  | 13 => ⟨S1x1x2x2, .f32⟩
  | 14 => ⟨S2x2, .f32⟩
  | 15 => ⟨S2x2, .f32⟩
  | 16 => ⟨S512000x2x2x2x2, .f32⟩
  | 17 => ⟨S2x2, .f32⟩
  | 18 => ⟨S512000x2x2x2x2, .f32⟩
  | 19 => ⟨S512000x2x2x2x2, .f32⟩
  | 20 => ⟨S2x2, .f32⟩
  | 21 => ⟨S512000x2x2x2x2, .f32⟩
  | 22 => ⟨S2x2, .f32⟩
  | 23 => ⟨S512000x2x2x2x2, .f32⟩
  | 24 => ⟨S512000x2x2x2x2, .f32⟩
  | 25 => ⟨S2, .i32⟩
  | 26 => ⟨S_, .i32⟩
  | 27 => ⟨S2, .i32⟩
  | 28 => ⟨S2, .i1⟩
  | 29 => ⟨S1x2x1x1x1, .i1⟩
  | 30 => ⟨S512000x2x2x2x2, .f32⟩
  | 31 => ⟨S512000x2x2x2x2, .i1⟩
  | 32 => ⟨S512000x2x2x2x2, .f32⟩
  | 33 => ⟨S512000x2x2x2x2, .f32⟩
  | 34 => ⟨S512000x2x2x2x2, .i1⟩
  | 35 => ⟨S512000x2x2x2x2, .f32⟩
  | 36 => ⟨S2, .i32⟩
  | 37 => ⟨S_, .i32⟩
  | 38 => ⟨S2, .i32⟩
  | 39 => ⟨S2, .i1⟩
  | 40 => ⟨S1x1x2x1x1, .i1⟩
  | 41 => ⟨S512000x2x2x2x2, .f32⟩
  | 42 => ⟨S512000x2x2x2x2, .i1⟩
  | 43 => ⟨S512000x2x2x2x2, .f32⟩
  | 44 => ⟨S512000x2x2x2x2, .f32⟩
  | 45 => ⟨S512000x2x2x2x2, .i1⟩
  | 46 => ⟨S512000x2x2x2x2, .f32⟩
  | 47 => ⟨S2, .i32⟩
  | 48 => ⟨S_, .i32⟩
  | 49 => ⟨S2, .i32⟩
  | 50 => ⟨S2, .i1⟩
  | 51 => ⟨S1x1x1x2x1, .i1⟩
  | 52 => ⟨S512000x2x2x2x2, .f32⟩
  | 53 => ⟨S512000x2x2x2x2, .i1⟩
  | 54 => ⟨S512000x2x2x2x2, .f32⟩
  | 55 => ⟨S512000x2x2x2x2, .f32⟩
  | 56 => ⟨S512000x2x2x2x2, .i1⟩
  | 57 => ⟨S512000x2x2x2x2, .f32⟩
  | 58 => ⟨S2, .i32⟩
  | 59 => ⟨S_, .i32⟩
  | 60 => ⟨S2, .i32⟩
  | 61 => ⟨S2, .i1⟩
  | 62 => ⟨S1x1x1x1x2, .i1⟩
  | 63 => ⟨S512000x2x2x2x2, .f32⟩
  | 64 => ⟨S512000x2x2x2x2, .i1⟩
  | 65 => ⟨S512000x2x2x2x2, .f32⟩
  | 66 => ⟨S512000x2x2x2x2, .f32⟩
  | 67 => ⟨S512000x2x2x2x2, .i1⟩
  | 68 => ⟨S512000x2x2x2x2, .f32⟩
  | 69 => ⟨S512000x16, .f32⟩
  | 70 => ⟨S512000x16, .f32⟩
  | 71 => ⟨S512000x16, .f32⟩
  | 72 => ⟨S512000x16, .f32⟩
  | 73 => ⟨S512000x16, .f32⟩
  | 74 => ⟨S16, .i32⟩
  | 75 => ⟨S16x1, .i32⟩
  | 76 => ⟨S4, .i32⟩
  | 77 => ⟨S_, .i32⟩
  | 78 => ⟨S4, .i32⟩
  | 79 => ⟨S4, .i32⟩
  | 80 => ⟨S1x4, .i32⟩
  | 81 => ⟨S16x4, .i32⟩
  | 82 => ⟨S16x4, .i32⟩
  | 83 => ⟨S16x4, .i32⟩
  | 84 => ⟨S_, .i32⟩
  | 85 => ⟨S16x4, .i32⟩
  | 86 => ⟨S16x4, .i32⟩
  | 87 => ⟨S16x4, .f32⟩
  | 88 => ⟨S_, .f32⟩
  | 89 => ⟨S16x4, .f32⟩
  | 90 => ⟨S16x4, .f32⟩
  | 91 => ⟨S_, .f32⟩
  | 92 => ⟨S16x4, .f32⟩
  | 93 => ⟨S16x4, .f32⟩
  | 94 => ⟨S512000x4, .f32⟩
  | 95 => ⟨S4096x500, .f32⟩
  | 96 => ⟨S500x96, .f32⟩
  | 97 => ⟨S4096x96, .f32⟩
  | 98 => ⟨S1x96, .f32⟩
  | 99 => ⟨S4096x96, .f32⟩
  | 100 => ⟨S4096x96, .f32⟩
  | 101 => ⟨S64x64x96, .f32⟩
  | 102 => ⟨S64x96x64, .f32⟩
  | _ => ⟨S64x512x64, .f32⟩

abbrev hbmTy (i : Nat) : BufTy := match i / 128 with
  | 0 => hbmTy0_0 i
  | 1 => hbmTy0_1 i
  | 2 => hbmTy0_2 i
  | _ => ⟨S64x512x64, .f32⟩

abbrev bufTy : (tb : Table) → Fin (tcTables nBuf tb) → BufTy
  | .hbm, ⟨i, _⟩ => hbmTy i
  | _, _ => ⟨S64x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_cst : Ref sig .tc := ⟨.hbm, 30, rfl⟩
abbrev main_call0_v1 : Ref sig .tc := ⟨.hbm, 31, rfl⟩
abbrev main_call0_v2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_c_7 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_call2_v0 : Ref sig .tc := ⟨.hbm, 175, rfl⟩
abbrev main_v157 : Ref sig .tc := ⟨.hbm, 176, rfl⟩
abbrev main_v158 : Ref sig .tc := ⟨.hbm, 177, rfl⟩
abbrev main_call4_v0 : Ref sig .tc := ⟨.hbm, 178, rfl⟩
abbrev main_v159 : Ref sig .tc := ⟨.hbm, 179, rfl⟩
abbrev main_v160 : Ref sig .tc := ⟨.hbm, 180, rfl⟩
abbrev main_c_8 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_call6_v0 : Ref sig .tc := ⟨.hbm, 186, rfl⟩
abbrev main_v165 : Ref sig .tc := ⟨.hbm, 187, rfl⟩
abbrev main_v166 : Ref sig .tc := ⟨.hbm, 188, rfl⟩
abbrev main_call8_v0 : Ref sig .tc := ⟨.hbm, 189, rfl⟩
abbrev main_v167 : Ref sig .tc := ⟨.hbm, 190, rfl⟩
abbrev main_v168 : Ref sig .tc := ⟨.hbm, 191, rfl⟩
abbrev main_c_9 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_call10_v0 : Ref sig .tc := ⟨.hbm, 197, rfl⟩
abbrev main_v173 : Ref sig .tc := ⟨.hbm, 198, rfl⟩
abbrev main_v174 : Ref sig .tc := ⟨.hbm, 199, rfl⟩
abbrev main_call12_v0 : Ref sig .tc := ⟨.hbm, 200, rfl⟩
abbrev main_v175 : Ref sig .tc := ⟨.hbm, 201, rfl⟩
abbrev main_v176 : Ref sig .tc := ⟨.hbm, 202, rfl⟩
abbrev main_c_10 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_call14_v0 : Ref sig .tc := ⟨.hbm, 208, rfl⟩
abbrev main_v181 : Ref sig .tc := ⟨.hbm, 209, rfl⟩
abbrev main_v182 : Ref sig .tc := ⟨.hbm, 210, rfl⟩
abbrev main_call16_v0 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_v199 : Ref sig .tc := ⟨.hbm, 228, rfl⟩
abbrev main_v200 : Ref sig .tc := ⟨.hbm, 229, rfl⟩
abbrev main_v201 : Ref sig .tc := ⟨.hbm, 230, rfl⟩
abbrev main_v202 : Ref sig .tc := ⟨.hbm, 231, rfl⟩
abbrev main_v203 : Ref sig .tc := ⟨.hbm, 232, rfl⟩
abbrev main_v204 : Ref sig .tc := ⟨.hbm, 233, rfl⟩
abbrev main_v205 : Ref sig .tc := ⟨.hbm, 234, rfl⟩
abbrev main_v206 : Ref sig .tc := ⟨.hbm, 235, rfl⟩
abbrev main_v207 : Ref sig .tc := ⟨.hbm, 236, rfl⟩
abbrev main_v208 : Ref sig .tc := ⟨.hbm, 237, rfl⟩
abbrev main_v209 : Ref sig .tc := ⟨.hbm, 238, rfl⟩
abbrev main_v210 : Ref sig .tc := ⟨.hbm, 239, rfl⟩
abbrev main_v211 : Ref sig .tc := ⟨.hbm, 240, rfl⟩
abbrev main_v212 : Ref sig .tc := ⟨.hbm, 241, rfl⟩
abbrev main_v213 : Ref sig .tc := ⟨.hbm, 242, rfl⟩
abbrev main_v214 : Ref sig .tc := ⟨.hbm, 243, rfl⟩
abbrev main_v215 : Ref sig .tc := ⟨.hbm, 244, rfl⟩
abbrev main_v216 : Ref sig .tc := ⟨.hbm, 245, rfl⟩
abbrev main_v217 : Ref sig .tc := ⟨.hbm, 246, rfl⟩
abbrev main_v218 : Ref sig .tc := ⟨.hbm, 247, rfl⟩
abbrev main_v219 : Ref sig .tc := ⟨.hbm, 248, rfl⟩
abbrev main_v220 : Ref sig .tc := ⟨.hbm, 249, rfl⟩
abbrev main_v221 : Ref sig .tc := ⟨.hbm, 250, rfl⟩
abbrev main_v222 : Ref sig .tc := ⟨.hbm, 251, rfl⟩
abbrev main_v223 : Ref sig .tc := ⟨.hbm, 252, rfl⟩
abbrev main_v224 : Ref sig .tc := ⟨.hbm, 253, rfl⟩
abbrev main_v225 : Ref sig .tc := ⟨.hbm, 254, rfl⟩
abbrev main_v226 : Ref sig .tc := ⟨.hbm, 255, rfl⟩
abbrev main_v227 : Ref sig .tc := ⟨.hbm, 256, rfl⟩
abbrev main_v228 : Ref sig .tc := ⟨.hbm, 257, rfl⟩
abbrev main_v229 : Ref sig .tc := ⟨.hbm, 258, rfl⟩
abbrev main_v230 : Ref sig .tc := ⟨.hbm, 259, rfl⟩
abbrev main_v231 : Ref sig .tc := ⟨.hbm, 260, rfl⟩
abbrev main_v232 : Ref sig .tc := ⟨.hbm, 261, rfl⟩
abbrev main_v233 : Ref sig .tc := ⟨.hbm, 262, rfl⟩
abbrev main_v234 : Ref sig .tc := ⟨.hbm, 263, rfl⟩
abbrev main_v235 : Ref sig .tc := ⟨.hbm, 264, rfl⟩
abbrev main_v236 : Ref sig .tc := ⟨.hbm, 265, rfl⟩
abbrev main_v237 : Ref sig .tc := ⟨.hbm, 266, rfl⟩
abbrev main_v238 : Ref sig .tc := ⟨.hbm, 267, rfl⟩
abbrev main_v239 : Ref sig .tc := ⟨.hbm, 268, rfl⟩
abbrev main_v240 : Ref sig .tc := ⟨.hbm, 269, rfl⟩
abbrev main_v241 : Ref sig .tc := ⟨.hbm, 270, rfl⟩
abbrev main_v242 : Ref sig .tc := ⟨.hbm, 271, rfl⟩
abbrev main_v243 : Ref sig .tc := ⟨.hbm, 272, rfl⟩
abbrev main_v244 : Ref sig .tc := ⟨.hbm, 273, rfl⟩
abbrev main_v245 : Ref sig .tc := ⟨.hbm, 274, rfl⟩
abbrev main_v246 : Ref sig .tc := ⟨.hbm, 275, rfl⟩
abbrev main_v247 : Ref sig .tc := ⟨.hbm, 276, rfl⟩
abbrev main_v248 : Ref sig .tc := ⟨.hbm, 277, rfl⟩
abbrev main_v249 : Ref sig .tc := ⟨.hbm, 278, rfl⟩
abbrev main_v250 : Ref sig .tc := ⟨.hbm, 279, rfl⟩
abbrev main_v251 : Ref sig .tc := ⟨.hbm, 280, rfl⟩
abbrev main_v252 : Ref sig .tc := ⟨.hbm, 281, rfl⟩
abbrev main_c_11 : Ref sig .tc := ⟨.hbm, 282, rfl⟩
abbrev main_v253 : Ref sig .tc := ⟨.hbm, 283, rfl⟩
abbrev main_v254 : Ref sig .tc := ⟨.hbm, 284, rfl⟩
abbrev main_v255 : Ref sig .tc := ⟨.hbm, 285, rfl⟩
abbrev main_v256 : Ref sig .tc := ⟨.hbm, 286, rfl⟩
abbrev main_call18_v0 : Ref sig .tc := ⟨.hbm, 287, rfl⟩
abbrev main_v257 : Ref sig .tc := ⟨.hbm, 288, rfl⟩
abbrev main_v258 : Ref sig .tc := ⟨.hbm, 289, rfl⟩
abbrev main_call20_v0 : Ref sig .tc := ⟨.hbm, 290, rfl⟩
abbrev main_v259 : Ref sig .tc := ⟨.hbm, 291, rfl⟩
abbrev main_v260 : Ref sig .tc := ⟨.hbm, 292, rfl⟩
abbrev main_c_12 : Ref sig .tc := ⟨.hbm, 293, rfl⟩
abbrev main_v261 : Ref sig .tc := ⟨.hbm, 294, rfl⟩
abbrev main_v262 : Ref sig .tc := ⟨.hbm, 295, rfl⟩
abbrev main_v263 : Ref sig .tc := ⟨.hbm, 296, rfl⟩
abbrev main_v264 : Ref sig .tc := ⟨.hbm, 297, rfl⟩
abbrev main_call22_v0 : Ref sig .tc := ⟨.hbm, 298, rfl⟩
abbrev main_v265 : Ref sig .tc := ⟨.hbm, 299, rfl⟩
abbrev main_v266 : Ref sig .tc := ⟨.hbm, 300, rfl⟩
abbrev main_call24_v0 : Ref sig .tc := ⟨.hbm, 301, rfl⟩
abbrev main_v267 : Ref sig .tc := ⟨.hbm, 302, rfl⟩
abbrev main_v268 : Ref sig .tc := ⟨.hbm, 303, rfl⟩
abbrev main_c_13 : Ref sig .tc := ⟨.hbm, 304, rfl⟩
abbrev main_v269 : Ref sig .tc := ⟨.hbm, 305, rfl⟩
abbrev main_v270 : Ref sig .tc := ⟨.hbm, 306, rfl⟩
abbrev main_v271 : Ref sig .tc := ⟨.hbm, 307, rfl⟩
abbrev main_v272 : Ref sig .tc := ⟨.hbm, 308, rfl⟩
abbrev main_call26_v0 : Ref sig .tc := ⟨.hbm, 309, rfl⟩
abbrev main_v273 : Ref sig .tc := ⟨.hbm, 310, rfl⟩
abbrev main_v274 : Ref sig .tc := ⟨.hbm, 311, rfl⟩
abbrev main_call28_v0 : Ref sig .tc := ⟨.hbm, 312, rfl⟩
abbrev main_v275 : Ref sig .tc := ⟨.hbm, 313, rfl⟩
abbrev main_v276 : Ref sig .tc := ⟨.hbm, 314, rfl⟩
abbrev main_c_14 : Ref sig .tc := ⟨.hbm, 315, rfl⟩
abbrev main_v277 : Ref sig .tc := ⟨.hbm, 316, rfl⟩
abbrev main_v278 : Ref sig .tc := ⟨.hbm, 317, rfl⟩
abbrev main_v279 : Ref sig .tc := ⟨.hbm, 318, rfl⟩
abbrev main_v280 : Ref sig .tc := ⟨.hbm, 319, rfl⟩
abbrev main_call30_v0 : Ref sig .tc := ⟨.hbm, 320, rfl⟩
abbrev main_v281 : Ref sig .tc := ⟨.hbm, 321, rfl⟩
abbrev main_v282 : Ref sig .tc := ⟨.hbm, 322, rfl⟩
abbrev main_call32_v0 : Ref sig .tc := ⟨.hbm, 323, rfl⟩
abbrev main_v283 : Ref sig .tc := ⟨.hbm, 324, rfl⟩
abbrev main_v284 : Ref sig .tc := ⟨.hbm, 325, rfl⟩
abbrev main_v285 : Ref sig .tc := ⟨.hbm, 326, rfl⟩
abbrev main_v286 : Ref sig .tc := ⟨.hbm, 327, rfl⟩
abbrev main_v287 : Ref sig .tc := ⟨.hbm, 328, rfl⟩
abbrev main_v288 : Ref sig .tc := ⟨.hbm, 329, rfl⟩
abbrev main_v289 : Ref sig .tc := ⟨.hbm, 330, rfl⟩
abbrev main_v290 : Ref sig .tc := ⟨.hbm, 331, rfl⟩
abbrev main_v291 : Ref sig .tc := ⟨.hbm, 332, rfl⟩
abbrev main_c_15 : Ref sig .tc := ⟨.hbm, 333, rfl⟩
abbrev main_v292 : Ref sig .tc := ⟨.hbm, 334, rfl⟩
abbrev main_v293 : Ref sig .tc := ⟨.hbm, 335, rfl⟩
abbrev main_v294 : Ref sig .tc := ⟨.hbm, 336, rfl⟩
abbrev main_v295 : Ref sig .tc := ⟨.hbm, 337, rfl⟩
abbrev main_v296 : Ref sig .tc := ⟨.hbm, 338, rfl⟩
abbrev main_v297 : Ref sig .tc := ⟨.hbm, 339, rfl⟩
abbrev main_c_16 : Ref sig .tc := ⟨.hbm, 340, rfl⟩
abbrev main_v298 : Ref sig .tc := ⟨.hbm, 341, rfl⟩
abbrev main_v299 : Ref sig .tc := ⟨.hbm, 342, rfl⟩
abbrev main_v300 : Ref sig .tc := ⟨.hbm, 343, rfl⟩
abbrev main_cst_17 : Ref sig .tc := ⟨.hbm, 344, rfl⟩
abbrev main_v301 : Ref sig .tc := ⟨.hbm, 345, rfl⟩
abbrev main_v302 : Ref sig .tc := ⟨.hbm, 346, rfl⟩
abbrev main_cst_18 : Ref sig .tc := ⟨.hbm, 347, rfl⟩
abbrev main_v303 : Ref sig .tc := ⟨.hbm, 348, rfl⟩
abbrev main_v304 : Ref sig .tc := ⟨.hbm, 349, rfl⟩
abbrev main_v305 : Ref sig .tc := ⟨.hbm, 350, rfl⟩
abbrev main_v306 : Ref sig .tc := ⟨.hbm, 351, rfl⟩
abbrev main_v307 : Ref sig .tc := ⟨.hbm, 352, rfl⟩
abbrev main_v308 : Ref sig .tc := ⟨.hbm, 353, rfl⟩
abbrev main_v309 : Ref sig .tc := ⟨.hbm, 354, rfl⟩
abbrev main_v310 : Ref sig .tc := ⟨.hbm, 355, rfl⟩
abbrev main_v311 : Ref sig .tc := ⟨.hbm, 356, rfl⟩
abbrev main_v312 : Ref sig .tc := ⟨.hbm, 357, rfl⟩
abbrev main_v313 : Ref sig .tc := ⟨.hbm, 358, rfl⟩

abbrev nD : Nat := 1
abbrev τ : Topo := Topo.v7x

variable {F : FTy → Type} [FloatOps F]
-- ==== Proof.Lift.lean ====
/-
  Real numbers among the extended reals: an array of reals as an array of extended reals, and the float words the two
  programs print as the real numbers they denote.
-/
module

public import Idealize.ShloMosaic.Lib.Pointwise
public import Idealize.ShloMosaic.PureOps.Ideal.Laws

@[expose] public section

noncomputable section

namespace Cert.Circuit

open Idealize.ShloMosaic

/-- An array of real numbers, as an array of extended reals. -/
def up {ι : Type} (f : ι → ℝ) : ι → EReal := fun i => (f i : EReal)

theorem up_apply {ι : Type} (f : ι → ℝ) (i : ι) : up f i = (f i : EReal) := rfl

/-- A finite sum of real numbers is the same sum among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An array none of whose elements is infinite is an array of real numbers. -/
theorem exists_up {ι : Type} (f : ι → EReal) (h : ∀ i, f i ≠ ⊤ ∧ f i ≠ ⊥) : ∃ r : ι → ℝ, f = up r :=
  ⟨fun i => (f i).toReal, funext fun i => (EReal.coe_toReal (h i).1 (h i).2).symm⟩

/-- The word of 0.5. -/
theorem word_half : Ideal.ofBits .f32 0x3F000000#32 = ((2⁻¹ : ℝ) : EReal) := by
  simp [Ideal.ofBits, Ideal.ieee, -EReal.coe_mul]; norm_num

/-- The word of 2. -/
theorem word_two : Ideal.ofBits .f32 0x40000000#32 = ((2 : ℝ) : EReal) := by
  simp [Ideal.ofBits, Ideal.ieee, -EReal.coe_mul]; norm_num

/-- The rational number that the literal 1e-6 denotes. -/
def eps : ℝ := 8796093 / 8796093022208

/-- The word of 1e-6. -/
theorem word_eps : Ideal.ofBits .f32 0x358637BD#32 = (eps : EReal) := by
  simp [Ideal.ofBits, Ideal.ieee, -EReal.coe_mul, eps]; norm_num

/-- The word of 2e-6: twice the number of the word of 1e-6. -/
theorem word_two_eps : Ideal.ofBits .f32 0x360637BD#32 = ((2 * eps : ℝ) : EReal) := by
  simp [Ideal.ofBits, Ideal.ieee, -EReal.coe_mul, eps]; norm_num

/-- The bfloat16 word of 1. -/
theorem word_bf_one : Ideal.ofBits .bf16 0x3F80#16 = ((1 : ℝ) : EReal) := by
  simp [Ideal.ofBits, Ideal.ieee, -EReal.coe_mul]; norm_num

/-- The bfloat16 word of 0. -/
theorem word_bf_zero : Ideal.ofBits .bf16 0x0000#16 = ((0 : ℝ) : EReal) := by
  simp [Ideal.ofBits, Ideal.ieee]

/-- A small natural number as a signed word. -/
theorem toInt_small (n : Nat) (h : n < 2147483648) : (BitVec.ofNat 32 n).toInt = n := by
  rw [BitVec.toInt_eq_toNat_cond, BitVec.toNat_ofNat, Nat.mod_eq_of_lt (by omega), if_pos (by omega)]

theorem eps_pos : 0 < eps := by norm_num [eps]

end Cert.Circuit

end
-- ==== Proof.Block.lean ====
/-
  What one block of the kernel computes, read at an index, for inputs that are real numbers: the two halves of a product of
  each row with the columns, squared and added, over the squared norm of the patch, weighted and summed.
-/
module

public import proofs.«01_k».proof.Proof.Lift
public import proofs.«01_k».proof.Proof.Gen.KernelIdeal.Skeleton

@[expose] public section

set_option maxRecDepth 16384

noncomputable section

namespace Cert.Circuit

open Idealize.ShloMosaic Idealize.ShloMosaic.TcCoe Idealize.SL.Sem
open Cert.KernelIdeal Cert.KernelIdeal.Gen

/-- Sixteen times the square of the small constant: the real number named in the kernel. -/
theorem named_eps : (Named.named (F := Ideal) Cert.KernelIdeal.κ "patch_eps2" 0x2D8CBCCC#32 : Ideal .f32) = ((16 * (eps * eps) : ℝ) : EReal) := by
  refine (IdealRules.named_const.ideal_named_scalar _ _ _ _ rfl).trans ?_
  norm_num [eps]

/-- One column of a product of two arrays, plus an offset. -/
def affine (W : Fin 4096 → Fin 512 → ℝ) (o : Fin 4096 → ℝ) (X : Fin 512 → ℝ) (r : Fin 4096) : ℝ := ∑ l, W r l * X l + o r

/-- The squared norm a block computes for patch `p` of a column. -/
def blockNorm (nb : Fin 128 → Fin 512 → ℝ) (X : Fin 512 → ℝ) (p : Fin 128) : ℝ :=
  ∑ l, nb p l * (X l * X l + 2 * eps * X l) + 16 * (eps * eps)

/-- The sum of two squares at row `k` of a block. -/
def square (W : Fin 4096 → Fin 512 → ℝ) (o : Fin 4096 → ℝ) (X : Fin 512 → ℝ) (k : Fin 2048) : ℝ :=
  affine W o X ⟨k.val, by omega⟩ * affine W o X ⟨k.val, by omega⟩ + affine W o X ⟨2048 + k.val, by omega⟩ * affine W o X ⟨2048 + k.val, by omega⟩

variable {v0 v2 v4 v6 : FVec Ideal S1x512x64 .f32} {Whi Wlo : FVec Ideal S4096x512 .bf16} {off : FVec Ideal S4096x1 .f32}
  {X : Fin 512 → Fin 256 → ℝ} {W : Fin 4096 → Fin 512 → ℝ} {o : Fin 4096 → ℝ}

theorem coe_sub_self (a : ℝ) : (a : EReal) - (a : EReal) = 0 := by rw [← EReal.coe_sub, sub_self, EReal.coe_zero]

/-- The block's array of sums of two squares. -/
theorem pay3_apply (hX : ∀ l s, k0_pay2 (F := Ideal) v0 v2 v4 v6 (ix2 l s) = (X l s : EReal)) (hW : ∀ r l, Whi (ix2 r l) = (W r l : EReal))
    (hl : ∀ r l, Wlo (ix2 r l) = 0) (ho : ∀ r, off (ix2 r 0) = (o r : EReal)) (k : Fin 2048) (s : Fin 256) :
    k0_pay3 (F := Ideal) v0 v2 v4 v6 Whi Wlo off (ix2 k s) = (square W o (fun l => X l s) k : EReal) := by
  pointwise [k0_pay3, hX, hW, hl, ho, coe_sub_self, mul_zero, zero_mul, Finset.sum_const_zero, add_zero]
  simp only [← EReal.coe_mul, ← coe_sum, ← EReal.coe_add]
  rfl

/-- The block's array of shifted squares. -/
theorem pay4_apply (hX : ∀ l s, k0_pay2 (F := Ideal) v0 v2 v4 v6 (ix2 l s) = (X l s : EReal)) (l : Fin 512) (s : Fin 256) :
    k0_pay4 (F := Ideal) v0 v2 v4 v6 (ix2 l s) = ((X l s * X l s + 2 * eps * X l s : ℝ) : EReal) := by
  pointwise [k0_pay4, hX, word_two_eps]
  simp only [← EReal.coe_mul, ← EReal.coe_add]

/-- The block's result. -/
theorem pay1_apply {S : FVec Ideal S2048x256 .f32} {Y : FVec Ideal S512x256 .f32} {NB : FVec Ideal S128x512 .bf16}
    {Hhi Hlo : FVec Ideal S96x2048 .bf16} {hb : FVec Ideal S96x1 .f32} {sq : Fin 2048 → Fin 256 → ℝ} {nb : Fin 128 → Fin 512 → ℝ}
    {hs : Fin 96 → Fin 2048 → ℝ}
    (hS : ∀ k s, S (ix2 k s) = (sq k s : EReal)) (hY : ∀ l s, Y (ix2 l s) = ((X l s * X l s + 2 * eps * X l s : ℝ) : EReal))
    (hN : ∀ p l, NB (ix2 p l) = (nb p l : EReal)) (hH : ∀ t k, Hhi (ix2 t k) = (hs t k : EReal)) (hL : ∀ t k, Hlo (ix2 t k) = 0)
    (s : Fin 256) (hn : ∀ p, blockNorm nb (fun l => X l s) p ≠ 0) (t : Fin 96) :
    k0_pay1 (F := Ideal) S Y NB Hhi Hlo hb (ix2 t s)
      = ((∑ k : Fin 2048, hs t k * (sq k s * (1 / blockNorm nb (fun l => X l s) ⟨k.val % 128, by omega⟩)) : ℝ) : EReal) + hb (ix2 t 0) := by
  pointwise [k0_pay1, hS, hY, hN, hH, hL, coe_sub_self, mul_zero, zero_mul, Finset.sum_const_zero, add_zero]
  have hd : ∀ p : Fin 128, Ideal.div 1 (∑ l, (nb p l : EReal) * ((X l s * X l s + 2 * eps * X l s : ℝ) : EReal)
      + (Named.named (F := Ideal) (φ := .f32) Cert.KernelIdeal.κ "patch_eps2" 0x2D8CBCCC#32 : Ideal .f32)) = ((1 / blockNorm nb (fun l => X l s) p : ℝ) : EReal) := fun p => by
    rw [named_eps]
    simp only [← EReal.coe_mul, ← coe_sum, ← EReal.coe_add]
    exact (Ideal.div_coe (x := 1) (hn p)).trans (one_mul _)
  simp only [hd]
  simp only [← EReal.coe_mul, coe_sub_self, mul_zero, Finset.sum_const_zero, add_zero, ← coe_sum]

end Cert.Circuit

end
-- ==== Proof.Grid.lean ====
/-
  The blocks of the kernel's grid, at an index, and the array the grid leaves.
-/
module

public import Idealize.ShloMosaic.Lib.Pipeline.ValueKit
public import proofs.«01_k».proof.Proof.Block
public import proofs.«01_k».proof.Proof.Gen.KernelIdeal.Frame

@[expose] public section

set_option maxRecDepth 16384

noncomputable section

namespace Cert.Circuit

open Idealize.ShloMosaic Idealize.ShloMosaic.TcCoe Idealize.SL.Sem
open Idealize.ShloMosaic.Pipeline (Dat)
open Cert.KernelIdeal Cert.KernelIdeal.Gen

/-- Where each window's block lies at each point of the grid. -/
theorem places : ∀ t : Fin cfg0.N, win0_0.index t = ![t.val, 0, 0] ∧ win0_1.index t = ![0, 0] ∧ win0_2.index t = ![0, 0] ∧ win0_3.index t = ![0, 0] ∧
    win0_4.index t = ![0, 0] ∧ win0_5.index t = ![0, 0] ∧ win0_6.index t = ![0, 0] ∧ win0_7.index t = ![0, 0] ∧ win0_8.index t = ![0, t.val] :=
  (by decide +kernel : ∀ t : Fin grid0.N, _)

variable (m : (ℓ : Loc nD τ sig) → Buf (Elt Ideal) ℓ) (c : Dev nD)

/-- A column of the grid's result, from a point and a column of its block. -/
def columnOf (t : Fin cfg0.N) (s : Fin 256) : Fin 4096 := ⟨256 * t.val + s.val, by have := t.isLt; have : cfg0.N = 16 := N_0; omega⟩

/-- The sample of row `r` of the block at a point. -/
def sampleOf (t : Fin cfg0.N) (r : Fin 4) : Fin 64 := ⟨4 * t.val + r.val, by have := t.isLt; have : cfg0.N = 16 := N_0; omega⟩

/-- The block of the samples at a point: four of them. -/
theorem block_x (t : Fin cfg0.N) (r : Fin 4) (l : Fin 512) (j : Fin 64) : iblk m c 0 t (ix3 r l j) = Gen.V m c main_arg0 (ix3 (sampleOf t r) l j) := by
  blk_simp [iblk]
  refine congrArg _ ?_
  unfold sampleOf
  blk_ext [(places t).1]

/-- The block of the circuit's rows is the whole array. -/
theorem block_upper (t : Fin cfg0.N) (r : Fin 4096) (l : Fin 512) : iblk m c 1 t (ix2 r l) = Gen.V m c main_v187 (ix2 r l) := by
  blk_simp [iblk]
  refine congrArg _ ?_
  blk_ext [(places t).2.1]

/-- The block of the circuit's rounding is the whole array. -/
theorem block_lower (t : Fin cfg0.N) (r : Fin 4096) (l : Fin 512) : iblk m c 2 t (ix2 r l) = Gen.V m c main_v210 (ix2 r l) := by
  blk_simp [iblk]
  refine congrArg _ ?_
  blk_ext [(places t).2.2.1]

/-- The block of the patches is the whole array. -/
theorem block_patches (t : Fin cfg0.N) (p : Fin 128) (l : Fin 512) : iblk m c 3 t (ix2 p l) = Gen.V m c main_cst_5 (ix2 p l) := by
  blk_simp [iblk]
  refine congrArg _ ?_
  blk_ext [(places t).2.2.2.1]

/-- The block of the head is the whole array. -/
theorem block_head_upper (t : Fin cfg0.N) (i : Fin 96) (n : Fin 2048) : iblk m c 4 t (ix2 i n) = Gen.V m c main_v227 (ix2 i n) := by
  blk_simp [iblk]
  refine congrArg _ ?_
  blk_ext [(places t).2.2.2.2.1]

/-- The block of the head's rounding is the whole array. -/
theorem block_head_lower (t : Fin cfg0.N) (i : Fin 96) (n : Fin 2048) : iblk m c 5 t (ix2 i n) = Gen.V m c main_v230 (ix2 i n) := by
  blk_simp [iblk]
  refine congrArg _ ?_
  blk_ext [(places t).2.2.2.2.2.1]

/-- The block of the offsets is the whole array. -/
theorem block_offset (t : Fin cfg0.N) (r : Fin 4096) : iblk m c 6 t (ix2 r 0) = Gen.V m c main_v216 (ix2 r 0) := by
  blk_simp [iblk]
  refine congrArg _ ?_
  blk_ext [(places t).2.2.2.2.2.2.1]

/-- The block of the bias is the whole array. -/
theorem block_bias (t : Fin cfg0.N) (i : Fin 96) : iblk m c 7 t (ix2 i 0) = Gen.V m c main_v226 (ix2 i 0) := by
  blk_simp [iblk]
  refine congrArg _ ?_
  blk_ext [(places t).2.2.2.2.2.2.2.1]

/-- The four samples side by side. -/
theorem columns_apply (A : FVec Ideal S4x512x64 .f32) (l : Fin 512) (s : Fin 256) :
    k0_pay2 (F := Ideal) (View.ld A r0_0) (View.ld A r0_1) (View.ld A r0_2) (View.ld A r0_3) (ix2 l s)
      = A (ix3 ⟨s.val / 64, by omega⟩ l ⟨s.val % 64, by omega⟩) := by
  pointwise [k0_pay2]
  have hs := s.isLt
  have at_ : ∀ (r : Fin 4) (n : Nat) (hn : n < 64), s.val = r.val * 64 + n → A (ix3 r l ⟨n, hn⟩) = A (ix3 ⟨s.val / 64, by omega⟩ l ⟨s.val % 64, by omega⟩) := by
    intro r n hn e
    have e1 : r = ⟨s.val / 64, by omega⟩ := Fin.ext (by show r.val = s.val / 64; omega)
    have e2 : (⟨n, hn⟩ : Fin 64) = ⟨s.val % 64, by omega⟩ := Fin.ext (by show n = s.val % 64; omega)
    rw [e1, e2]
  by_cases h0 : s.val < 64
  · exact (dif_pos h0).trans (at_ ⟨0, by omega⟩ _ _ (by show s.val = 0 * 64 + s.val; omega))
  refine (dif_neg h0).trans ?_
  by_cases h1 : s.val - 64 < 64
  · exact (dif_pos h1).trans (at_ ⟨1, by omega⟩ _ _ (by show s.val = 1 * 64 + (s.val - 64); omega))
  refine (dif_neg h1).trans ?_
  by_cases h2 : s.val - 64 - 64 < 64
  · exact (dif_pos h2).trans (at_ ⟨2, by omega⟩ _ _ (by show s.val = 2 * 64 + (s.val - 64 - 64); omega))
  exact (dif_neg h2).trans (at_ ⟨3, by omega⟩ _ (by omega) (by show s.val = 3 * 64 + (s.val - 64 - 64 - 64); omega))

/-- What the body leaves at a point, from the blocks it reads. -/
def result (t : Fin cfg0.N) : FVec Ideal S96x256 .f32 :=
  k0_pay1 (F := Ideal) (k0_pay3 (View.ld (iblk m c 0 t) r0_0) (View.ld (iblk m c 0 t) r0_1) (View.ld (iblk m c 0 t) r0_2) (View.ld (iblk m c 0 t) r0_3) (iblk m c 1 t) (iblk m c 2 t) (iblk m c 6 t))
     (k0_pay4 (View.ld (iblk m c 0 t) r0_0) (View.ld (iblk m c 0 t) r0_1) (View.ld (iblk m c 0 t) r0_2) (View.ld (iblk m c 0 t) r0_3)) (iblk m c 3 t) (iblk m c 4 t) (iblk m c 5 t) (iblk m c 7 t)

/-- The array the grid leaves is any array that agrees with the results at every point. -/
theorem final_array (G : FVec Ideal S96x4096 .f32) (h : ∀ (t : Fin cfg0.N) (i : Fin 96) (s : Fin 256), result m c t (ix2 i s) = G (ix2 i (columnOf t s))) :
    (dats m 0 c).arrAt 8 cfg0.N = G := by
  refine (dats m 0 c).arrAt_eq_of_covers 8 _ (by decide +kernel) fun t hf y => ?_
  blk_simp
  rw [after0_8]
  frame_out
  change S96x256.Idx at y
  obtain ⟨i, s, rfl⟩ : ∃ i s, y = ix2 i s := ⟨y 0, y 1, eq_ix2 y⟩
  refine (h t i s).trans (congrArg G ?_)
  unfold columnOf
  blk_ext [(places t).2.2.2.2.2.2.2.2]

end Cert.Circuit
-- ==== Proof.Suffix.lean ====
/-
  The operations after the kernel's grid.
-/
module

public import Idealize.ShloMosaic.Lib.StableHlo.ReadAt
public import Idealize.ShloMosaic.Lib.Pointwise
public import proofs.«01_k».proof.Proof.Gen.KernelIdeal.Frame

@[expose] public section

set_option maxRecDepth 16384

noncomputable section

namespace Cert.Circuit

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

/-- The array of heads, arranged by sample and channel. -/
def arranged (A : FVec Ideal S96x4096 .f32) : FVec Ideal S64x96x64 .f32 :=
  transpose S64x96x64 [1, 0, 2] (shapeCast S96x64x64 A shapeCasts_S96x4096_S96x64x64) transposes_S96x64x64_S64x96x64_1_0_2

/-- Entry `(B, i, j)` of the arrangement is entry `(i, 64 B + j)` of the array. -/
theorem arranged_apply (A : FVec Ideal S96x4096 .f32) (B : Fin 64) (i : Fin 96) (j : Fin 64) :
    arranged A (ix3 B i j) = A (ix2 i ⟨B.val * 64 + j.val, by omega⟩) := by
  pointwise [arranged]

/-- The operations after the grid arrange what it left. -/
theorem after_grid : Pipeline.afterTail₀ cfgs (dats m) 0 (V0 m) [hostOps1] c main_v233 = arranged ((dats m 0 c).arrAt 8 cfg0.N) := by
  have h := Pipeline.withArrays_arr (τ := τ) spec0 (by decide) c (V0 m c) (fun w => (dats m 0 c).arrAt w cfg0.N) 8
  unfold Pipeline.afterTail₀
  after_reads_simp
  exact congrArg arranged h

/-- The kernel's run: the result is the arrangement of what the grid left, and the arguments are unchanged. -/
theorem kernel_run (ρ : Dev nD → PrngReg) : θ_run defs (onTc (τ := τ) (main (F := Ideal))) ⟨m, fun _ => 0, ρ⟩ (fun r => ∀ c : Dev nD,
      r.2.mem ((c.tc : Thread nD τ).loc main_v233) = arranged ((dats m 0 c).arrAt 8 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.2 c).2 main_v233 (by decide)).trans (after_grid m c), h.1 c⟩) (θ_run_and (unchanged m ρ) (run_main m ρ))

end Cert.Circuit
-- ==== Proof.Arrays.lean ====
/-
  The arrays the kernel forms before its grid, as functions of the weights and the head, in the kernel's own steps.
-/
module

public import Idealize.ShloMosaic.Lib.Pointwise
public import proofs.«01_k».proof.Proof.Gen.KernelIdeal.Skeleton

@[expose] public section

set_option maxRecDepth 16384

noncomputable section

namespace Cert.Circuit

open Idealize.ShloMosaic Idealize.ShloMosaic.TcCoe Idealize.SL.Sem
open Cert.KernelIdeal Cert.KernelIdeal.Gen

/-- The gates of one qubit, in both layers. -/
abbrev Gates := FVec Ideal S2x4x2x2 .f32

/-- The gates of qubit 0, along its own axes of the product. -/
def slot0 (G : Gates) : FVec Ideal S2x2x1x1x1x2x1x1x1 .f32 :=
  shapeCast S2x2x1x1x1x2x1x1x1 (shapeCast S2x2x2 (extractStridedSlice S2x1x2x2 ![0, 0, 0, 0] G slices_S2x4x2x2_S2x1x2x2_0_0_0_0) shapeCasts_S2x1x2x2_S2x2x2) shapeCasts_S2x2x2_S2x2x1x1x1x2x1x1x1
/-- The gates of qubit 1, along its own axes of the product. -/
def slot1 (G : Gates) : FVec Ideal S2x1x2x1x1x1x2x1x1 .f32 :=
  shapeCast S2x1x2x1x1x1x2x1x1 (shapeCast S2x2x2 (extractStridedSlice S2x1x2x2 ![0, 1, 0, 0] G slices_S2x4x2x2_S2x1x2x2_0_1_0_0) shapeCasts_S2x1x2x2_S2x2x2) shapeCasts_S2x2x2_S2x1x2x1x1x1x2x1x1
/-- The gates of qubit 2, along its own axes of the product. -/
def slot2 (G : Gates) : FVec Ideal S2x1x1x2x1x1x1x2x1 .f32 :=
  shapeCast S2x1x1x2x1x1x1x2x1 (shapeCast S2x2x2 (extractStridedSlice S2x1x2x2 ![0, 2, 0, 0] G slices_S2x4x2x2_S2x1x2x2_0_2_0_0) shapeCasts_S2x1x2x2_S2x2x2) shapeCasts_S2x2x2_S2x1x1x2x1x1x1x2x1
/-- The gates of qubit 3, along its own axes of the product. -/
def slot3 (G : Gates) : FVec Ideal S2x1x1x1x2x1x1x1x2 .f32 :=
  shapeCast S2x1x1x1x2x1x1x1x2 (shapeCast S2x2x2 (extractStridedSlice S2x1x2x2 ![0, 3, 0, 0] G slices_S2x4x2x2_S2x1x2x2_0_3_0_0) shapeCasts_S2x1x2x2_S2x2x2) shapeCasts_S2x2x2_S2x1x1x1x2x1x1x1x2

/-- One product of the gates of qubits 0 and 1. -/
def pairMul (A B : Gates) : FVec Ideal S2x2x2x1x1x2x2x1x1 .f32 :=
  mulf (broadcastInDim S2x2x2x1x1x2x2x1x1 ![0, 1, 2, 3, 4, 5, 6, 7, 8] bcast_S2x2x1x1x1x2x1x1x1_S2x2x2x1x1x2x2x1x1_0_1_2_3_4_5_6_7_8 (slot0 A))
    (broadcastInDim S2x2x2x1x1x2x2x1x1 ![0, 1, 2, 3, 4, 5, 6, 7, 8] bcast_S2x1x2x1x1x1x2x1x1_S2x2x2x1x1x2x2x1x1_0_1_2_3_4_5_6_7_8 (slot1 B))
/-- One product of a pair with the gates of qubit 2. -/
def tripleMul (P : FVec Ideal S2x2x2x1x1x2x2x1x1 .f32) (B : Gates) : FVec Ideal S2x2x2x2x1x2x2x2x1 .f32 :=
  mulf (broadcastInDim S2x2x2x2x1x2x2x2x1 ![0, 1, 2, 3, 4, 5, 6, 7, 8] bcast_S2x2x2x1x1x2x2x1x1_S2x2x2x2x1x2x2x2x1_0_1_2_3_4_5_6_7_8 P)
    (broadcastInDim S2x2x2x2x1x2x2x2x1 ![0, 1, 2, 3, 4, 5, 6, 7, 8] bcast_S2x1x1x2x1x1x1x2x1_S2x2x2x2x1x2x2x2x1_0_1_2_3_4_5_6_7_8 (slot2 B))
/-- One product of a triple with the gates of qubit 3. -/
def fourMul (P : FVec Ideal S2x2x2x2x1x2x2x2x1 .f32) (B : Gates) : FVec Ideal S2x2x2x2x2x2x2x2x2 .f32 :=
  mulf (broadcastInDim S2x2x2x2x2x2x2x2x2 ![0, 1, 2, 3, 4, 5, 6, 7, 8] bcast_S2x2x2x2x1x2x2x2x1_S2x2x2x2x2x2x2x2x2_0_1_2_3_4_5_6_7_8 P)
    (broadcastInDim S2x2x2x2x2x2x2x2x2 ![0, 1, 2, 3, 4, 5, 6, 7, 8] bcast_S2x1x1x1x2x1x1x1x2_S2x2x2x2x2x2x2x2x2_0_1_2_3_4_5_6_7_8 (slot3 B))

/-- Real part of the pair. -/
def pairRe (R I : Gates) : FVec Ideal S2x2x2x1x1x2x2x1x1 .f32 := subf (pairMul R R) (pairMul I I)
/-- Imaginary part of the pair. -/
def pairIm (R I : Gates) : FVec Ideal S2x2x2x1x1x2x2x1x1 .f32 := addf (pairMul R I) (pairMul I R)
/-- Real part of the triple. -/
def tripleRe (P Q : FVec Ideal S2x2x2x1x1x2x2x1x1 .f32) (R I : Gates) : FVec Ideal S2x2x2x2x1x2x2x2x1 .f32 := subf (tripleMul P R) (tripleMul Q I)
/-- Imaginary part of the triple. -/
def tripleIm (P Q : FVec Ideal S2x2x2x1x1x2x2x1x1 .f32) (R I : Gates) : FVec Ideal S2x2x2x2x1x2x2x2x1 .f32 := addf (tripleMul P I) (tripleMul Q R)
/-- Real part of the product of the four gates, as a matrix. -/
def fourRe (P Q : FVec Ideal S2x2x2x2x1x2x2x2x1 .f32) (R I : Gates) : FVec Ideal S2x16x16 .f32 :=
  shapeCast S2x16x16 (subf (fourMul P R) (fourMul Q I)) shapeCasts_S2x2x2x2x2x2x2x2x2_S2x16x16
/-- Imaginary part of the product of the four gates, as a matrix. -/
def fourIm (P Q : FVec Ideal S2x2x2x2x1x2x2x2x1 .f32) (R I : Gates) : FVec Ideal S2x16x16 .f32 :=
  shapeCast S2x16x16 (addf (fourMul P I) (fourMul Q R)) shapeCasts_S2x2x2x2x2x2x2x2x2_S2x16x16

/-- The row numbers a permutation gathers at. -/
def rowNumbers (mask : IVec S16 1) (tab : IVec S16 32) : IVec S16x1 32 :=
  broadcastInDim S16x1 ![0] bcast_S16_S16x1_0 (select mask (addi tab (broadcastInDim S16 ![] bcast_S_S16 (constantI S_ 32 16#32))) tab)
/-- The first layer's rows, permuted. -/
def rows0 (K : FVec Ideal S2x16x16 .f32) (mask : IVec S16 1) (tab : IVec S16 32) : FVec Ideal S16x16 .f32 :=
  Host.gather gather_S16x16_S16x1_S16x16_1_0_n_n_0_1_116
    (shapeCast S16x16 (extractStridedSlice S1x16x16 ![0, 0, 0] K slices_S2x16x16_S1x16x16_0_0_0) shapeCasts_S1x16x16_S16x16) (rowNumbers mask tab)
/-- The second layer's rows, permuted. -/
def rows1 (K : FVec Ideal S2x16x16 .f32) (mask : IVec S16 1) (tab : IVec S16 32) : FVec Ideal S16x16 .f32 :=
  Host.gather gather_S16x16_S16x1_S16x16_1_0_n_n_0_1_116
    (shapeCast S16x16 (extractStridedSlice S1x16x16 ![1, 0, 0] K slices_S2x16x16_S1x16x16_1_0_0) shapeCasts_S1x16x16_S16x16) (rowNumbers mask tab)

/-- A product of two square matrices. -/
def matMul (A B : FVec Ideal S16x16 .f32) : FVec Ideal S16x16 .f32 := Host.dotGeneral dot_S16x16_S16x16_S16x16_1_0_0_1_n_n (some .fp32) A B
/-- One part of the circuit, as a layer of a stack. -/
def leaf (A : FVec Ideal S16x16 .f32) : FVec Ideal S1x16x16 .f32 := broadcastInDim S1x16x16 ![1, 2] bcast_S16x16_S1x16x16_1_2 A
/-- The two parts of the circuit, stacked. -/
def stack (A B : FVec Ideal S1x16x16 .f32) : FVec Ideal S2x16x16 .f32 :=
  concatenate S2x16x16 0 [⟨S1x16x16, A⟩, ⟨S1x16x16, B⟩] concatenates_S1x16x16_S1x16x16_S2x16x16_d0
/-- Real part of the circuit from the permuted layers (second, first). -/
def circuitRe (A B C D : FVec Ideal S16x16 .f32) : FVec Ideal S16x16 .f32 := subf (matMul A C) (matMul B D)
/-- Imaginary part of the circuit from the permuted layers (second, first). -/
def circuitIm (A B C D : FVec Ideal S16x16 .f32) : FVec Ideal S16x16 .f32 := addf (matMul A D) (matMul B C)

/-- Real part of the product of the four gates of each layer. -/
def kronRe (R I : Gates) : FVec Ideal S2x16x16 .f32 :=
  fourRe (tripleRe (pairRe R I) (pairIm R I) R I) (tripleIm (pairRe R I) (pairIm R I) R I) R I
/-- Imaginary part of the product of the four gates of each layer. -/
def kronIm (R I : Gates) : FVec Ideal S2x16x16 .f32 :=
  fourIm (tripleRe (pairRe R I) (pairIm R I) R I) (tripleIm (pairRe R I) (pairIm R I) R I) R I
/-- The circuit from the gates and the row numbers of the two layers. -/
def circuitOf (R I : Gates) (m0 m1 m3 m4 : IVec S16 1) (t0 t1 : IVec S16 32) : FVec Ideal S2x16x16 .f32 :=
  stack
    (leaf (circuitRe (rows1 (kronRe R I) m3 t1) (rows1 (kronIm R I) m4 t1) (rows0 (kronRe R I) m0 t0) (rows0 (kronIm R I) m1 t0)))
    (leaf (circuitIm (rows1 (kronRe R I) m3 t1) (rows1 (kronIm R I) m4 t1) (rows0 (kronRe R I) m0 t0) (rows0 (kronIm R I) m1 t0)))

/-- Where element `l` is the `j`-th of patch `p`. -/
def hits : IVec S16x128x512 1 :=
  andi (cmpi CmpIPredicate.slt (iotaInDim S16x128x512 32 1) (broadcastInDim S16x128x512 ![] bcast_S_S16x128x512 (constantI S_ 32 125#32)))
    (cmpi CmpIPredicate.eq (iotaInDim S16x128x512 32 2)
      (addi (muli (broadcastInDim S16x128x512 ![] bcast_S_S16x128x512 (constantI S_ 32 4#32)) (iotaInDim S16x128x512 32 1)) (iotaInDim S16x128x512 32 0)))
/-- One where element `l` is the `j`-th of patch `p`, and zero elsewhere. -/
def picks : FVec Ideal S16x128x512 .f32 :=
  select hits (broadcastInDim S16x128x512 ![] bcast_S_S16x128x512 (constant S_ FTy.f32 1065353216#32))
    (broadcastInDim S16x128x512 ![] bcast_S_S16x128x512 (constant S_ FTy.f32 0#32))
/-- The same, as rows. -/
def spread : FVec Ideal S16x65536 .f32 :=
  extf FTy.f32 (shapeCast S16x65536 (truncf FTy.bf16 picks bitsLt_bf16_f32 : FVec Ideal S16x128x512 .bf16) shapeCasts_S16x128x512_S16x65536) bitsLt_bf16_f32
/-- The circuit's rows laid out over the elements of every patch. -/
def weightOf (U : FVec Ideal S2x16x16 .bf16) : FVec Ideal S4096x512 .bf16 :=
  truncf FTy.bf16 (shapeCast S4096x512 (Host.reduceAdd
      (mulf (broadcastInDim S2x16x16x65536 ![0, 1, 2, 3] bcast_S2x16x16x1_S2x16x16x65536_0_1_2_3 (broadcastInDim S2x16x16x1 ![0, 1, 2] bcast_S2x16x16_S2x16x16x1_0_1_2 (extf FTy.f32 U bitsLt_bf16_f32)))
        (broadcastInDim S2x16x16x65536 ![0, 1, 2, 3] bcast_S1x1x16x65536_S2x16x16x65536_0_1_2_3 (broadcastInDim S1x1x16x65536 ![2, 3] bcast_S16x65536_S1x1x16x65536_2_3 spread)))
      (constant S_ FTy.f32 0#32) reducesTo_S2x16x16x65536_S2x16x65536_d2 h_S_) shapeCasts_S2x16x65536_S4096x512) bitsLt_bf16_f32
/-- The circuit, rounded once. -/
def upper (U : FVec Ideal S2x16x16 .f32) : FVec Ideal S2x16x16 .bf16 := truncf FTy.bf16 U bitsLt_bf16_f32
/-- What the rounding left. -/
def lower (U : FVec Ideal S2x16x16 .f32) : FVec Ideal S2x16x16 .bf16 := truncf FTy.bf16 (subf U (extf FTy.f32 (upper U) bitsLt_bf16_f32)) bitsLt_bf16_f32
/-- The small constant times the sums of the circuit's rows. -/
def offsetOf (U : FVec Ideal S2x16x16 .f32) : FVec Ideal S4096x1 .f32 :=
  shapeCast S4096x1 (broadcastInDim S2x16x128x1 ![0, 1, 2, 3] bcast_S2x16x1x1_S2x16x128x1_0_1_2_3 (broadcastInDim S2x16x1x1 ![0, 1] bcast_S2x16_S2x16x1x1_0_1
    (mulf (broadcastInDim S2x16 ![] bcast_S_S2x16 (constant S_ FTy.f32 897988541#32)) (Host.reduceAdd U (constant S_ FTy.f32 0#32) reducesTo_S2x16x16_S2x16_d2 h_S_)))) shapeCasts_S2x16x128x1_S4096x1

/-- The head summed over the qubits with the signs of each state. -/
def signedHead (hw : FVec Ideal S96x500 .f32) (sg : FVec Ideal S16x4 .f32) : FVec Ideal S96x16x125 .f32 :=
  Host.reduceAdd (mulf
      (broadcastInDim S96x16x125x4 ![0, 1, 2, 3] bcast_S96x1x125x4_S96x16x125x4_0_1_2_3 (broadcastInDim S96x1x125x4 ![0, 2, 3] bcast_S96x125x4_S96x1x125x4_0_2_3 (shapeCast S96x125x4 hw shapeCasts_S96x500_S96x125x4)))
      (broadcastInDim S96x16x125x4 ![0, 1, 2, 3] bcast_S1x16x1x4_S96x16x125x4_0_1_2_3 (broadcastInDim S1x16x1x4 ![1, 3] bcast_S16x4_S1x16x1x4_1_3 sg)))
    (constant S_ FTy.f32 0#32) reducesTo_S96x16x125x4_S96x16x125_d3 h_S_
/-- The signed head, with three empty patches at the end, as rows. -/
def headOf (hw : FVec Ideal S96x500 .f32) (sg : FVec Ideal S16x4 .f32) : FVec Ideal S96x2048 .f32 :=
  shapeCast S96x2048 (pad S96x16x128 ![0, 0, 0] ![0, 0, 3] ![0, 0, 0] (signedHead hw sg) (sitofp FTy.f32 (constantI S_ 32 0#32)) pads_S96x16x125_S96x16x128_000_000_030 h_S_) shapeCasts_S96x16x128_S96x2048
/-- The head, rounded once. -/
def headUpper (H : FVec Ideal S96x2048 .f32) : FVec Ideal S96x2048 .bf16 := truncf FTy.bf16 H bitsLt_bf16_f32
/-- What the rounding of the head left. -/
def headLower (H : FVec Ideal S96x2048 .f32) : FVec Ideal S96x2048 .bf16 := truncf FTy.bf16 (subf H (extf FTy.f32 (headUpper H) bitsLt_bf16_f32)) bitsLt_bf16_f32
/-- The bias, as a column. -/
def biasOf (hb : FVec Ideal S96 .f32) : FVec Ideal S96x1 .f32 := shapeCast S96x1 hb shapeCasts_S96_S96x1

end Cert.Circuit
-- ==== Proof.Circuit.lean ====
/-
  The mathematics of the circuit, over the reals and the complex numbers: no program is mentioned here.
  A state of the four wires is a function of their four bits. One layer turns each wire by its own 2×2 gate and then
  applies four controlled flips; the same layer is one 16×16 matrix, the Kronecker product of the gates with its rows
  permuted.
-/
module

public import Idealize.ShloMosaic.Lib.Pointwise
public import Idealize.ShloMosaic.PureOps.Ideal.Laws

@[expose] public section

noncomputable section

namespace Cert.Circuit

/-- The amplitudes of the four wires, by their bits. -/
abbrev Amp : Type := Fin 2 → Fin 2 → Fin 2 → Fin 2 → ℂ

/-- A 2×2 gate. -/
abbrev Gate : Type := Fin 2 → Fin 2 → ℂ

/-- The gate `g` on wire 0. -/
def rot0 (g : Gate) (ψ : Amp) : Amp := fun a b c d => ∑ k : Fin 2, ψ k b c d * g a k
/-- The gate `g` on wire 1. -/
def rot1 (g : Gate) (ψ : Amp) : Amp := fun a b c d => ∑ k : Fin 2, ψ a k c d * g b k
/-- The gate `g` on wire 2. -/
def rot2 (g : Gate) (ψ : Amp) : Amp := fun a b c d => ∑ k : Fin 2, ψ a b k d * g c k
/-- The gate `g` on wire 3. -/
def rot3 (g : Gate) (ψ : Amp) : Amp := fun a b c d => ∑ k : Fin 2, ψ a b c k * g d k

/-- One gate on each wire. -/
def rots (G : Fin 4 → Gate) (ψ : Amp) : Amp := rot3 (G 3) (rot2 (G 2) (rot1 (G 1) (rot0 (G 0) ψ)))

/-- The controlled flips of the two layers: wire `t` is flipped where wire `c` is set, named `flip_c_t`. -/
def flip_0_1 (ψ : Amp) : Amp := fun a b c d => if a = 1 then ψ a b.rev c d else ψ a b c d
/-- Wire 2 flipped where wire 1 is set. -/
def flip_1_2 (ψ : Amp) : Amp := fun a b c d => if b = 1 then ψ a b c.rev d else ψ a b c d
/-- Wire 3 flipped where wire 2 is set. -/
def flip_2_3 (ψ : Amp) : Amp := fun a b c d => if c = 1 then ψ a b c d.rev else ψ a b c d
/-- Wire 0 flipped where wire 3 is set. -/
def flip_3_0 (ψ : Amp) : Amp := fun a b c d => if d = 1 then ψ a.rev b c d else ψ a b c d
/-- Wire 2 flipped where wire 0 is set. -/
def flip_0_2 (ψ : Amp) : Amp := fun a b c d => if a = 1 then ψ a b c.rev d else ψ a b c d
/-- Wire 3 flipped where wire 1 is set. -/
def flip_1_3 (ψ : Amp) : Amp := fun a b c d => if b = 1 then ψ a b c d.rev else ψ a b c d
/-- Wire 0 flipped where wire 2 is set. -/
def flip_2_0 (ψ : Amp) : Amp := fun a b c d => if c = 1 then ψ a.rev b c d else ψ a b c d
/-- Wire 1 flipped where wire 3 is set. -/
def flip_3_1 (ψ : Amp) : Amp := fun a b c d => if d = 1 then ψ a b.rev c d else ψ a b c d

/-- The first layer: the gates, then the flips 0→1, 1→2, 2→3, 3→0. -/
def layer0 (G : Fin 4 → Gate) (ψ : Amp) : Amp := flip_3_0 (flip_2_3 (flip_1_2 (flip_0_1 (rots G ψ))))
/-- The second layer: the gates, then the flips 0→2, 1→3, 2→0, 3→1. -/
def layer1 (G : Fin 4 → Gate) (ψ : Amp) : Amp := flip_3_1 (flip_2_0 (flip_1_3 (flip_0_2 (rots G ψ))))

/-- Bit of wire 0 in a state number. -/
def bit0 (i : Fin 16) : Fin 2 := ⟨i.val / 8, by omega⟩
/-- Bit of wire 1 in a state number. -/
def bit1 (i : Fin 16) : Fin 2 := ⟨i.val / 4 % 2, by omega⟩
/-- Bit of wire 2 in a state number. -/
def bit2 (i : Fin 16) : Fin 2 := ⟨i.val / 2 % 2, by omega⟩
/-- Bit of wire 3 in a state number. -/
def bit3 (i : Fin 16) : Fin 2 := ⟨i.val % 2, by omega⟩

/-- The amplitude of a state number. -/
def flat (ψ : Amp) (i : Fin 16) : ℂ := ψ (bit0 i) (bit1 i) (bit2 i) (bit3 i)

/-- The Kronecker product of the four gates. -/
def kron (G : Fin 4 → Gate) (i j : Fin 16) : ℂ :=
  G 0 (bit0 i) (bit0 j) * G 1 (bit1 i) (bit1 j) * G 2 (bit2 i) (bit2 j) * G 3 (bit3 i) (bit3 j)

/-- Which row of the Kronecker product the first layer's flips put in each row. -/
def perm0 : Fin 16 → Fin 16 := ![0, 13, 3, 14, 6, 11, 5, 8, 12, 1, 15, 2, 10, 7, 9, 4]
/-- Which row of the Kronecker product the second layer's flips put in each row. -/
def perm1 : Fin 16 → Fin 16 := ![0, 4, 8, 12, 5, 1, 13, 9, 10, 14, 2, 6, 15, 11, 7, 3]

/-- The whole circuit as one matrix. -/
def unitary (G0 G1 : Fin 4 → Gate) (i j : Fin 16) : ℂ := ∑ k : Fin 16, kron G1 (perm1 i) k * kron G0 (perm0 k) j

/-- The four gates together are the Kronecker product applied to the amplitudes. -/
theorem flat_rots (G : Fin 4 → Gate) (ψ : Amp) (i : Fin 16) : flat (rots G ψ) i = ∑ j, kron G i j * flat ψ j := by
  unfold flat rots rot0 rot1 rot2 rot3 kron
  generalize bit0 i = a
  generalize bit1 i = b
  generalize bit2 i = c
  generalize bit3 i = d
  simp only [Fin.sum_univ_two, Fin.sum_univ_succ, Fin.sum_univ_zero]
  simp only [bit0, bit1, bit2, bit3, flat]
  norm_num [Fin.succ]
  ring

/-- The first layer's flips permute the rows. -/
theorem flat_flips0 (ψ : Amp) (i : Fin 16) : flat (flip_3_0 (flip_2_3 (flip_1_2 (flip_0_1 ψ)))) i = flat ψ (perm0 i) := by
  fin_cases i <;> rfl

/-- The second layer's flips permute the rows. -/
theorem flat_flips1 (ψ : Amp) (i : Fin 16) : flat (flip_3_1 (flip_2_0 (flip_1_3 (flip_0_2 ψ)))) i = flat ψ (perm1 i) := by
  fin_cases i <;> rfl

/-- The two layers together are the circuit's matrix applied to the amplitudes. -/
theorem flat_layers (G0 G1 : Fin 4 → Gate) (ψ : Amp) (i : Fin 16) :
    flat (layer1 G1 (layer0 G0 ψ)) i = ∑ j, unitary G0 G1 i j * flat ψ j := by
  unfold layer1
  rw [flat_flips1, flat_rots]
  have h : ∀ j, flat (layer0 G0 ψ) j = ∑ k, kron G0 (perm0 j) k * flat ψ k := fun j => by
    unfold layer0
    rw [flat_flips0, flat_rots]
  simp only [h, unitary, Finset.mul_sum, Finset.sum_mul]
  rw [Finset.sum_comm]
  exact Finset.sum_congr rfl fun j _ => Finset.sum_congr rfl fun k _ => by ring

end Cert.Circuit

end
-- ==== Proof.Layers.lean ====
/-
  The kernel's arrays of gates, read at an index: the products of the gates of the four qubits, permuted and multiplied,
  are the circuit as one matrix.
-/
module

public import Idealize.ShloMosaic.Lib.Routing.Ops
public import proofs.«01_k».proof.Proof.Arrays
public import proofs.«01_k».proof.Proof.Circuit
public import proofs.«01_k».proof.Proof.Lift

@[expose] public section

set_option maxRecDepth 16384

noncomputable section

namespace Cert.Circuit

open Idealize.ShloMosaic Idealize.ShloMosaic.TcCoe Idealize.SL.Sem
open Cert.KernelIdeal Cert.KernelIdeal.Gen

/-- The gates of qubit 0, read along their own axes. -/
theorem slot0_apply (G : Gates) (l a b : Fin 2) : slot0 G (ix9 l a 0 0 0 b 0 0 0) = G (ix4 l 0 a b) := by
  pointwise [slot0]
/-- The gates of qubit 1, read along their own axes. -/
theorem slot1_apply (G : Gates) (l a b : Fin 2) : slot1 G (ix9 l 0 a 0 0 0 b 0 0) = G (ix4 l 1 a b) := by
  pointwise [slot1]
/-- The gates of qubit 2, read along their own axes. -/
theorem slot2_apply (G : Gates) (l a b : Fin 2) : slot2 G (ix9 l 0 0 a 0 0 0 b 0) = G (ix4 l 2 a b) := by
  pointwise [slot2]
/-- The gates of qubit 3, read along their own axes. -/
theorem slot3_apply (G : Gates) (l a b : Fin 2) : slot3 G (ix9 l 0 0 0 a 0 0 0 b) = G (ix4 l 3 a b) := by
  pointwise [slot3]

/-- A product of the gates of qubits 0 and 1, element by element. -/
theorem pairMul_apply (A B : Gates) (l a0 a1 b0 b1 : Fin 2) :
    pairMul A B (ix9 l a0 a1 0 0 b0 b1 0 0) = A (ix4 l 0 a0 b0) * B (ix4 l 1 a1 b1) := by
  pointwise [pairMul, slot0_apply, slot1_apply]
/-- A product with the gates of qubit 2, element by element. -/
theorem tripleMul_apply (P : FVec Ideal S2x2x2x1x1x2x2x1x1 .f32) (B : Gates) (l a0 a1 a2 b0 b1 b2 : Fin 2) :
    tripleMul P B (ix9 l a0 a1 a2 0 b0 b1 b2 0) = P (ix9 l a0 a1 0 0 b0 b1 0 0) * B (ix4 l 2 a2 b2) := by
  pointwise [tripleMul, slot2_apply]
/-- A product with the gates of qubit 3, element by element. -/
theorem fourMul_apply (P : FVec Ideal S2x2x2x2x1x2x2x2x1 .f32) (B : Gates) (l a0 a1 a2 a3 b0 b1 b2 b3 : Fin 2) :
    fourMul P B (ix9 l a0 a1 a2 a3 b0 b1 b2 b3) = P (ix9 l a0 a1 a2 0 b0 b1 b2 0) * B (ix4 l 3 a3 b3) := by
  pointwise [fourMul, slot3_apply]

section Product

variable {R I : Gates} {g : Fin 2 → Fin 4 → Gate}

/-- The two parts of the pair are the parts of the product of two gates. -/
theorem pair_apply (hR : ∀ l q a b, R (ix4 l q a b) = ((g l q a b).re : EReal)) (hI : ∀ l q a b, I (ix4 l q a b) = ((g l q a b).im : EReal))
    (l a0 a1 b0 b1 : Fin 2) : pairRe R I (ix9 l a0 a1 0 0 b0 b1 0 0) = ((g l 0 a0 b0 * g l 1 a1 b1).re : EReal) ∧
      pairIm R I (ix9 l a0 a1 0 0 b0 b1 0 0) = ((g l 0 a0 b0 * g l 1 a1 b1).im : EReal) := by
  constructor
  · pointwise [pairRe, pairMul_apply, hR, hI]
    simp only [Complex.mul_re, EReal.coe_sub, EReal.coe_mul]
  · pointwise [pairIm, pairMul_apply, hR, hI]
    simp only [Complex.mul_im, EReal.coe_add, EReal.coe_mul]

/-- The two parts of the triple are the parts of the product of three gates. -/
theorem triple_apply (hR : ∀ l q a b, R (ix4 l q a b) = ((g l q a b).re : EReal)) (hI : ∀ l q a b, I (ix4 l q a b) = ((g l q a b).im : EReal))
    (l a0 a1 a2 b0 b1 b2 : Fin 2) :
    tripleRe (pairRe R I) (pairIm R I) R I (ix9 l a0 a1 a2 0 b0 b1 b2 0) = ((g l 0 a0 b0 * g l 1 a1 b1 * g l 2 a2 b2).re : EReal) ∧
      tripleIm (pairRe R I) (pairIm R I) R I (ix9 l a0 a1 a2 0 b0 b1 b2 0) = ((g l 0 a0 b0 * g l 1 a1 b1 * g l 2 a2 b2).im : EReal) := by
  have hp := fun a0 a1 b0 b1 => pair_apply hR hI l a0 a1 b0 b1
  constructor
  · pointwise [tripleRe, tripleMul_apply, hR, hI, (hp _ _ _ _).1, (hp _ _ _ _).2]
    rw [Complex.mul_re _ (g l 2 a2 b2), EReal.coe_sub, EReal.coe_mul, EReal.coe_mul]
  · pointwise [tripleIm, tripleMul_apply, hR, hI, (hp _ _ _ _).1, (hp _ _ _ _).2]
    rw [Complex.mul_im _ (g l 2 a2 b2), EReal.coe_add, EReal.coe_mul, EReal.coe_mul]

/-- The two parts of the product of the four gates are the parts of their Kronecker product. -/
theorem kron_apply (hR : ∀ l q a b, R (ix4 l q a b) = ((g l q a b).re : EReal)) (hI : ∀ l q a b, I (ix4 l q a b) = ((g l q a b).im : EReal))
    (l : Fin 2) (i j : Fin 16) : kronRe R I (ix3 l i j) = ((kron (g l) i j).re : EReal) ∧ kronIm R I (ix3 l i j) = ((kron (g l) i j).im : EReal) := by
  have ht := fun a0 a1 a2 b0 b1 b2 => triple_apply hR hI l a0 a1 a2 b0 b1 b2
  constructor
  · pointwise [kronRe, fourRe, fourMul_apply, hR, hI, (ht _ _ _ _ _ _).1, (ht _ _ _ _ _ _).2]
    rw [kron, Complex.mul_re _ (g l 3 _ _), EReal.coe_sub, EReal.coe_mul, EReal.coe_mul]
    rfl
  · pointwise [kronIm, fourIm, fourMul_apply, hR, hI, (ht _ _ _ _ _ _).1, (ht _ _ _ _ _ _).2]
    rw [kron, Complex.mul_im _ (g l 3 _ _), EReal.coe_add, EReal.coe_mul, EReal.coe_mul]
    rfl

end Product

/-- The row numbers, read at a row. -/
theorem rowNumbers_apply {mask : IVec S16 1} {tab : IVec S16 32} {π : Fin 16 → Fin 16} (hm : ∀ k, mask (ix1 k) = 0#1)
    (ht : ∀ k, tab (ix1 k) = BitVec.ofNat 32 (π k).val) (i : Fin 16) : rowNumbers mask tab (ix2 i 0) = BitVec.ofNat 32 (π i).val := by
  pointwise [rowNumbers, hm, ht]

/-- The first layer's rows, permuted, read at an index. -/
theorem rows0_apply {mask : IVec S16 1} {tab : IVec S16 32} {π : Fin 16 → Fin 16} (hm : ∀ k, mask (ix1 k) = 0#1)
    (ht : ∀ k, tab (ix1 k) = BitVec.ofNat 32 (π k).val) (K : FVec Ideal S2x16x16 .f32) (i j : Fin 16) :
    rows0 K mask tab (ix2 i j) = K (ix3 0 (π i) j) := by
  refine (Routing.gather_row _ rfl rfl rfl rfl rfl _ _ i j (π i) (rowNumbers_apply hm ht i) (by norm_num)).trans ?_
  show shapeCast S16x16 (extractStridedSlice S1x16x16 ![0, 0, 0] K _) _ (ix2 (π i) j) = _
  pointwise

/-- The second layer's rows, permuted, read at an index. -/
theorem rows1_apply {mask : IVec S16 1} {tab : IVec S16 32} {π : Fin 16 → Fin 16} (hm : ∀ k, mask (ix1 k) = 0#1)
    (ht : ∀ k, tab (ix1 k) = BitVec.ofNat 32 (π k).val) (K : FVec Ideal S2x16x16 .f32) (i j : Fin 16) :
    rows1 K mask tab (ix2 i j) = K (ix3 1 (π i) j) := by
  refine (Routing.gather_row _ rfl rfl rfl rfl rfl _ _ i j (π i) (rowNumbers_apply hm ht i) (by norm_num)).trans ?_
  show shapeCast S16x16 (extractStridedSlice S1x16x16 ![1, 0, 0] K _) _ (ix2 (π i) j) = _
  pointwise

/-- A product of two square matrices, read at an index. -/
theorem matMul_apply (A B : FVec Ideal S16x16 .f32) (i j : Fin 16) : matMul A B (ix2 i j) = ∑ k, A (ix2 i k) * B (ix2 k j) := by
  pointwise [matMul]

/-- The stack of the two parts holds the real part first. -/
theorem stack_zero (A B : FVec Ideal S16x16 .f32) (i j : Fin 16) : stack (leaf A) (leaf B) (ix3 0 i j) = A (ix2 i j) := by
  pointwise [stack, leaf]
/-- The stack of the two parts holds the imaginary part second. -/
theorem stack_one (A B : FVec Ideal S16x16 .f32) (i j : Fin 16) : stack (leaf A) (leaf B) (ix3 1 i j) = B (ix2 i j) := by
  pointwise [stack, leaf]

section Circuit

variable {A B C D : FVec Ideal S16x16 .f32} {a b : Fin 16 → Fin 16 → ℂ}

/-- The real part of a product of two complex matrices. -/
theorem circuitRe_apply (hA : ∀ i j, A (ix2 i j) = ((a i j).re : EReal)) (hB : ∀ i j, B (ix2 i j) = ((a i j).im : EReal))
    (hC : ∀ i j, C (ix2 i j) = ((b i j).re : EReal)) (hD : ∀ i j, D (ix2 i j) = ((b i j).im : EReal)) (i j : Fin 16) :
    circuitRe A B C D (ix2 i j) = ((∑ k, a i k * b k j).re : EReal) := by
  pointwise [circuitRe, matMul_apply, hA, hB, hC, hD]
  simp only [Complex.re_sum, Complex.mul_re, Finset.sum_sub_distrib, EReal.coe_sub, coe_sum, EReal.coe_mul]

/-- The imaginary part of a product of two complex matrices. -/
theorem circuitIm_apply (hA : ∀ i j, A (ix2 i j) = ((a i j).re : EReal)) (hB : ∀ i j, B (ix2 i j) = ((a i j).im : EReal))
    (hC : ∀ i j, C (ix2 i j) = ((b i j).re : EReal)) (hD : ∀ i j, D (ix2 i j) = ((b i j).im : EReal)) (i j : Fin 16) :
    circuitIm A B C D (ix2 i j) = ((∑ k, a i k * b k j).im : EReal) := by
  pointwise [circuitIm, matMul_apply, hA, hB, hC, hD]
  simp only [Complex.im_sum, Complex.mul_im, Finset.sum_add_distrib, EReal.coe_add, coe_sum, EReal.coe_mul]

end Circuit

/-- Real part first, imaginary part second. -/
def part (c : Fin 2) (z : ℂ) : ℝ := if c = 0 then z.re else z.im

/-- The kernel's circuit is the circuit as one matrix. -/
theorem circuitOf_apply {R I : Gates} {g : Fin 2 → Fin 4 → Gate} {m0 m1 m3 m4 : IVec S16 1} {t0 t1 : IVec S16 32}
    (hR : ∀ l q a b, R (ix4 l q a b) = ((g l q a b).re : EReal)) (hI : ∀ l q a b, I (ix4 l q a b) = ((g l q a b).im : EReal))
    (h0 : ∀ k, m0 (ix1 k) = 0#1) (h1 : ∀ k, m1 (ix1 k) = 0#1) (h3 : ∀ k, m3 (ix1 k) = 0#1) (h4 : ∀ k, m4 (ix1 k) = 0#1)
    (ht0 : ∀ k, t0 (ix1 k) = BitVec.ofNat 32 (perm0 k).val) (ht1 : ∀ k, t1 (ix1 k) = BitVec.ofNat 32 (perm1 k).val) (c : Fin 2) (i j : Fin 16) :
    circuitOf R I m0 m1 m3 m4 t0 t1 (ix3 c i j) = (part c (unitary (g 0) (g 1) i j) : EReal) := by
  have hA : ∀ i j, rows1 (kronRe R I) m3 t1 (ix2 i j) = ((kron (g 1) (perm1 i) j).re : EReal) := fun i j =>
    (rows1_apply h3 ht1 _ i j).trans (kron_apply hR hI 1 _ _).1
  have hB : ∀ i j, rows1 (kronIm R I) m4 t1 (ix2 i j) = ((kron (g 1) (perm1 i) j).im : EReal) := fun i j =>
    (rows1_apply h4 ht1 _ i j).trans (kron_apply hR hI 1 _ _).2
  have hC : ∀ i j, rows0 (kronRe R I) m0 t0 (ix2 i j) = ((kron (g 0) (perm0 i) j).re : EReal) := fun i j =>
    (rows0_apply h0 ht0 _ i j).trans (kron_apply hR hI 0 _ _).1
  have hD : ∀ i j, rows0 (kronIm R I) m1 t0 (ix2 i j) = ((kron (g 0) (perm0 i) j).im : EReal) := fun i j =>
    (rows0_apply h1 ht0 _ i j).trans (kron_apply hR hI 0 _ _).2
  unfold circuitOf
  match c with
  | 0 => rw [stack_zero, circuitRe_apply hA hB hC hD]; rfl
  | 1 => rw [stack_one, circuitIm_apply hA hB hC hD]; rfl

end Cert.Circuit
-- ==== Proof.Weights.lean ====
/-
  The arrays the kernel's grid reads, at an index, when the gates and the head are real numbers.
-/
module

public import proofs.«01_k».proof.Proof.Layers

@[expose] public section

set_option maxRecDepth 16384

noncomputable section

namespace Cert.Circuit

open Idealize.ShloMosaic Idealize.ShloMosaic.TcCoe Idealize.SL.Sem
open Cert.KernelIdeal Cert.KernelIdeal.Gen

/-- One where element `l` is the `j`-th of patch `p`, and zero elsewhere. -/
def pick (j : Fin 16) (p : Fin 128) (l : Fin 512) : ℝ := if p.val < 125 ∧ l.val = 4 * p.val + j.val then 1 else 0

/-- The comparisons of the kernel decide whether element `l` is the `j`-th of patch `p`. -/
theorem hit_word : ∀ (j p l : ℕ), j < 16 → p < 128 → l < 512 →
    Scalar.select (IntOp.andi (IntOp.cmpi CmpIPredicate.slt (BitVec.ofNat 32 p) 125#32)
      (IntOp.cmpi CmpIPredicate.eq (BitVec.ofNat 32 l) (IntOp.addi (IntOp.muli (4#32) (BitVec.ofNat 32 p)) (BitVec.ofNat 32 j)))) (1 : EReal) 0 =
      ((if p < 125 ∧ l = 4 * p + j then 1 else 0 : ℝ) : EReal) := by
  intro j p l hj hp hl
  have h1 : IntOp.cmpi CmpIPredicate.slt (BitVec.ofNat 32 p) 125#32 = if p < 125 then 1#1 else 0#1 := by
    show BitVec.ofBool ((BitVec.ofNat 32 p).slt (BitVec.ofNat 32 125)) = _
    rw [BitVec.slt_eq_decide, toInt_small p (by omega), toInt_small 125 (by omega)]
    by_cases h : p < 125
    · rw [if_pos h, decide_eq_true (by exact_mod_cast h)]; rfl
    · rw [if_neg h, decide_eq_false (by exact_mod_cast h)]; rfl
  have h2 : IntOp.cmpi CmpIPredicate.eq (BitVec.ofNat 32 l) (IntOp.addi (IntOp.muli (4#32) (BitVec.ofNat 32 p)) (BitVec.ofNat 32 j)) = if l = 4 * p + j then 1#1 else 0#1 := by
    show BitVec.ofBool (BitVec.ofNat 32 l == BitVec.ofNat 32 4 * BitVec.ofNat 32 p + BitVec.ofNat 32 j) = _
    rw [← BitVec.ofNat_mul, ← BitVec.ofNat_add]
    by_cases h : l = 4 * p + j
    · rw [if_pos h, h, beq_self_eq_true]; rfl
    · have hne : BitVec.ofNat 32 l ≠ BitVec.ofNat 32 (4 * p + j) := fun e => h (by
        have e' := congrArg BitVec.toNat e
        rwa [BitVec.toNat_ofNat, BitVec.toNat_ofNat, Nat.mod_eq_of_lt (by omega), Nat.mod_eq_of_lt (by omega)] at e')
      rw [if_neg h, beq_eq_false_iff_ne.2 hne]; rfl
  rw [h1, h2]
  by_cases ha : p < 125 <;> by_cases hb : l = 4 * p + j <;> simp [ha, hb, Scalar.select, IntOp.andi]

/-- The kernel's mask, read at an index. -/
theorem picks_apply (j : Fin 16) (p : Fin 128) (l : Fin 512) : picks (ix3 j p l) = (pick j p l : EReal) := by
  pointwise [picks, hits]
  exact hit_word j.val p.val l.val j.isLt p.isLt l.isLt

/-- The kernel's mask as rows, read at an index. -/
theorem spread_apply (j : Fin 16) (n : Fin 65536) : spread (ix2 j n) = (pick j ⟨n.val / 512, by omega⟩ ⟨n.val % 512, by omega⟩ : EReal) := by
  pointwise [spread, picks_apply]

section Values

variable {u : Fin 2 → Fin 16 → Fin 16 → ℝ}

/-- The weight of element `l` in row `r`: the circuit's entry at the place of `l` in the row's patch, or zero. -/
def weight (u : Fin 2 → Fin 16 → Fin 16 → ℝ) (r : Fin 4096) (l : Fin 512) : ℝ :=
  ∑ j, u ⟨r.val / 2048, by omega⟩ ⟨r.val / 128 % 16, by omega⟩ j * pick j ⟨r.val % 128, by omega⟩ l
/-- The offset of row `r`: the small constant times the sum of the circuit's row. -/
def offset (u : Fin 2 → Fin 16 → Fin 16 → ℝ) (r : Fin 4096) : ℝ :=
  eps * ∑ j, u ⟨r.val / 2048, by omega⟩ ⟨r.val / 128 % 16, by omega⟩ j

/-- The circuit's rows over the elements of the patches, read at an index. -/
theorem weightOf_apply {U : FVec Ideal S2x16x16 .bf16} (hU : ∀ c k j, U (ix3 c k j) = (u c k j : EReal)) (r : Fin 4096) (l : Fin 512) :
    weightOf U (ix2 r l) = (weight u r l : EReal) := by
  pointwise [weightOf, spread_apply, hU]
  have hp : ∀ h, (⟨(r.val % 128 * 512 + l.val) / 512, h⟩ : Fin 128) = ⟨r.val % 128, by omega⟩ := fun h => Fin.ext (by show (r.val % 128 * 512 + l.val) / 512 = r.val % 128; omega)
  have hl : ∀ h, (⟨(r.val % 128 * 512 + l.val) % 512, h⟩ : Fin 512) = l := fun h => Fin.ext (by show (r.val % 128 * 512 + l.val) % 512 = l.val; omega)
  simp only [hp, hl, weight, coe_sum, EReal.coe_mul]

/-- The offsets, read at an index. -/
theorem offsetOf_apply {U : FVec Ideal S2x16x16 .f32} (hU : ∀ c k j, U (ix3 c k j) = (u c k j : EReal)) (r : Fin 4096) :
    offsetOf U (ix2 r 0) = (offset u r : EReal) := by
  pointwise [offsetOf, hU]
  have he : Ideal.ofBits FTy.f32 897988541#32 = (eps : EReal) := word_eps
  rw [he, offset, EReal.coe_mul, coe_sum]

/-- Rounding once leaves the circuit. -/
theorem upper_apply {U : FVec Ideal S2x16x16 .f32} (hU : ∀ c k j, U (ix3 c k j) = (u c k j : EReal)) (c : Fin 2) (k j : Fin 16) :
    upper U (ix3 c k j) = (u c k j : EReal) := by
  pointwise [upper, hU]
/-- Nothing is left of the rounding. -/
theorem lower_apply {U : FVec Ideal S2x16x16 .f32} (hU : ∀ c k j, U (ix3 c k j) = (u c k j : EReal)) (c : Fin 2) (k j : Fin 16) :
    lower U (ix3 c k j) = ((0 : ℝ) : EReal) := by
  pointwise [lower, upper, hU]
  rw [← EReal.coe_sub, sub_self]

/-- The weights of what the rounding left are zero. -/
theorem weight_zero (r : Fin 4096) (l : Fin 512) : weight (fun _ _ _ => 0) r l = 0 := by
  simp only [weight, zero_mul, Finset.sum_const_zero]

variable {hw : FVec Ideal S96x500 .f32} {sg : FVec Ideal S16x4 .f32} {h : Fin 96 → Fin 500 → ℝ} {s : Fin 16 → Fin 4 → ℝ}

/-- The head with the signs of state `k`, on patch `p`; zero on the empty patches. -/
def signed (h : Fin 96 → Fin 500 → ℝ) (s : Fin 16 → Fin 4 → ℝ) (t : Fin 96) (k : Fin 16) (p : Fin 128) : ℝ :=
  if hp : p.val < 125 then ∑ q : Fin 4, h t ⟨p.val * 4 + q.val, by omega⟩ * s k q else 0

/-- The head with the signs, read at an index. -/
theorem signedHead_apply (hh : ∀ t r, hw (ix2 t r) = (h t r : EReal)) (hs : ∀ k q, sg (ix2 k q) = (s k q : EReal)) (t : Fin 96) (k : Fin 16) (p : Fin 125) :
    signedHead hw sg (ix3 t k p) = ((∑ q : Fin 4, h t ⟨p.val * 4 + q.val, by omega⟩ * s k q : ℝ) : EReal) := by
  pointwise [signedHead, hh, hs]
  simp only [coe_sum, EReal.coe_mul]

/-- The rows of the head, read at an index. -/
theorem headOf_apply (hh : ∀ t r, hw (ix2 t r) = (h t r : EReal)) (hs : ∀ k q, sg (ix2 k q) = (s k q : EReal)) (t : Fin 96) (n : Fin 2048) :
    headOf hw sg (ix2 t n) = (signed h s t ⟨n.val / 128, by omega⟩ ⟨n.val % 128, by omega⟩ : EReal) := by
  pointwise [headOf]
  unfold signed
  by_cases hp : n.val % 128 < 125
  · have hn : n.val / 128 < 16 ∧ n.val % 128 < 125 := ⟨by omega, hp⟩
    rw [dif_pos hn, dif_pos hp, signedHead_apply hh hs]
  · have hn : ¬(n.val / 128 < 16 ∧ n.val % 128 < 125) := fun e => hp e.2
    rw [dif_neg hn, dif_neg hp]
    show ((BitVec.toInt (0#32) : ℝ) : EReal) = _
    simp

/-- Rounding once leaves the head. -/
theorem headUpper_apply {H : FVec Ideal S96x2048 .f32} {f : Fin 96 → Fin 2048 → ℝ} (hH : ∀ t n, H (ix2 t n) = (f t n : EReal)) (t : Fin 96) (n : Fin 2048) :
    headUpper H (ix2 t n) = (f t n : EReal) := by
  pointwise [headUpper, hH]
/-- Nothing is left of the rounding of the head. -/
theorem headLower_apply {H : FVec Ideal S96x2048 .f32} {f : Fin 96 → Fin 2048 → ℝ} (hH : ∀ t n, H (ix2 t n) = (f t n : EReal)) (t : Fin 96) (n : Fin 2048) :
    headLower H (ix2 t n) = 0 := by
  pointwise [headLower, headUpper, hH]
  rw [← EReal.coe_sub, sub_self, EReal.coe_zero]

/-- The bias as a column, read at an index. -/
theorem biasOf_apply (hb : FVec Ideal S96 .f32) (t : Fin 96) : biasOf hb (ix2 t 0) = hb (ix1 t) := by
  pointwise [biasOf]

end Values

end Cert.Circuit
-- ==== Proof.Gates.lean ====
/-
  The gates of the reference: the two arrays of the real and of the imaginary parts of the eight gates, read at an index.
-/
module

public import proofs.«01_k».proof.Proof.Circuit
public import proofs.«01_k».proof.Proof.Lift
public import proofs.«01_k».proof.Proof.Gen.ReferenceIdeal.Read

@[expose] public section

set_option maxRecDepth 16384

noncomputable section

namespace Cert.Circuit

open Idealize.ShloMosaic Idealize.ShloMosaic.TcCoe Idealize.SL.Sem
open Cert.ReferenceIdeal Cert.ReferenceIdeal.Gen Cert.ReferenceIdeal.Read

/-- The angle a gate's diagonal turns by: half the sum of the outer angles. -/
def half (w : S2x4x3.Idx → ℝ) (l : Fin 2) (q : Fin 4) : ℝ := 2⁻¹ * (w (ix3 l q 0) + w (ix3 l q 2))
/-- The angle a gate's other entries turn by: half the difference of the outer angles. -/
def diff (w : S2x4x3.Idx → ℝ) (l : Fin 2) (q : Fin 4) : ℝ := 2⁻¹ * (w (ix3 l q 0) - w (ix3 l q 2))
/-- Half the middle angle. -/
def mid (w : S2x4x3.Idx → ℝ) (l : Fin 2) (q : Fin 4) : ℝ := 2⁻¹ * w (ix3 l q 1)

/-- The real parts of the gate of layer `l` and wire `q`. -/
def gateRe (w : S2x4x3.Idx → ℝ) (l : Fin 2) (q : Fin 4) : Fin 2 → Fin 2 → ℝ :=
  ![![Real.cos (-half w l q) * Real.cos (mid w l q), -Real.cos (diff w l q) * Real.sin (mid w l q)],
    ![Real.cos (-diff w l q) * Real.sin (mid w l q), Real.cos (half w l q) * Real.cos (mid w l q)]]

/-- The imaginary parts of the gate of layer `l` and wire `q`. -/
def gateIm (w : S2x4x3.Idx → ℝ) (l : Fin 2) (q : Fin 4) : Fin 2 → Fin 2 → ℝ :=
  ![![Real.sin (-half w l q) * Real.cos (mid w l q), -Real.sin (diff w l q) * Real.sin (mid w l q)],
    ![Real.sin (-diff w l q) * Real.sin (mid w l q), Real.sin (half w l q) * Real.cos (mid w l q)]]

/-- The gate of layer `l` and wire `q`. -/
def gate (w : S2x4x3.Idx → ℝ) (l : Fin 2) (q : Fin 4) : Gate := fun a b => ⟨gateRe w l q a b, gateIm w l q a b⟩

/-- Half the sum of the outer angles, in the reference. -/
theorem v40_apply (w : S2x4x3.Idx → ℝ) (l : Fin 2) (q : Fin 4) : val_main_v40 (F := Ideal) (up w) (ix2 l q) = (half w l q : EReal) := by
  pointwise [val_main_v40, val_main_v39, val_main_cst_5, val_main_v38, val_main_v27, val_main_v26, val_main_v31, val_main_v30, up_apply, word_half]
  unfold half
  push_cast
  rfl

/-- Half the difference of the outer angles, in the reference. -/
theorem v43_apply (w : S2x4x3.Idx → ℝ) (l : Fin 2) (q : Fin 4) : val_main_v43 (F := Ideal) (up w) (ix2 l q) = (diff w l q : EReal) := by
  pointwise [val_main_v43, val_main_v42, val_main_cst_6, val_main_v41, val_main_v27, val_main_v26, val_main_v31, val_main_v30, up_apply, word_half]
  unfold diff
  push_cast
  rfl

/-- The cosine of half the middle angle, in the reference. -/
theorem v34_apply (w : S2x4x3.Idx → ℝ) (l : Fin 2) (q : Fin 4) : val_main_v34 (F := Ideal) (up w) (ix2 l q) = (Real.cos (mid w l q) : EReal) := by
  pointwise [val_main_v34, val_main_v33, val_main_v32, val_main_cst_3, val_main_v29, val_main_v28, up_apply, word_half]
  rw [← EReal.coe_mul]
  rfl

/-- The sine of half the middle angle, in the reference. -/
theorem v37_apply (w : S2x4x3.Idx → ℝ) (l : Fin 2) (q : Fin 4) : val_main_v37 (F := Ideal) (up w) (ix2 l q) = (Real.sin (mid w l q) : EReal) := by
  pointwise [val_main_v37, val_main_v36, val_main_v35, val_main_cst_4, val_main_v29, val_main_v28, up_apply, word_half]
  rw [← EReal.coe_mul]
  rfl

/-- The real parts of the reference's gates. -/
theorem gateRe_eq (w : S2x4x3.Idx → ℝ) (l : Fin 2) (q : Fin 4) (a b : Fin 2) :
    val_main_v63 (F := Ideal) (up w) (ix4 l q a b) = (gateRe w l q a b : EReal) := by
  fin_cases a <;> fin_cases b <;>
  · pointwise [val_main_v63, val_main_v62, val_main_v61, val_main_v60, val_main_v59, val_main_v58, val_main_v57, val_main_v56, val_main_v55,
      val_main_v46, val_main_v45, val_main_v44, val_main_v49, val_main_v48, val_main_v47, val_main_v52, val_main_v51, val_main_v50, val_main_v54, val_main_v53,
      v40_apply, v43_apply, v34_apply, v37_apply]
    simp only [← EReal.coe_neg, Ideal.cos_coe, ← EReal.coe_mul]
    rfl

/-- The imaginary parts of the reference's gates. -/
theorem gateIm_eq (w : S2x4x3.Idx → ℝ) (l : Fin 2) (q : Fin 4) (a b : Fin 2) :
    val_main_v83 (F := Ideal) (up w) (ix4 l q a b) = (gateIm w l q a b : EReal) := by
  fin_cases a <;> fin_cases b <;>
  · pointwise [val_main_v83, val_main_v82, val_main_v81, val_main_v80, val_main_v79, val_main_v78, val_main_v77, val_main_v76, val_main_v75,
      val_main_v66, val_main_v65, val_main_v64, val_main_v69, val_main_v68, val_main_v67, val_main_v72, val_main_v71, val_main_v70, val_main_v74, val_main_v73,
      v40_apply, v43_apply, v34_apply, v37_apply]
    simp only [← EReal.coe_neg, Ideal.sin_coe, ← EReal.coe_mul]
    rfl

end Cert.Circuit

end
-- ==== Proof.States.lean ====
/-
  One gate and one controlled flip as the reference computes them on its arrays of real and imaginary parts, and the whole
  circuit from the array of amplitudes to the array after the second layer.
-/
module

public import proofs.«01_k».proof.Proof.Gates

@[expose] public section

set_option maxRecDepth 16384

noncomputable section

namespace Cert.Circuit

open Idealize.ShloMosaic Idealize.ShloMosaic.TcCoe Idealize.SL.Sem
open Cert.ReferenceIdeal Cert.ReferenceIdeal.Gen Cert.ReferenceIdeal.Read

/-- An array of one number for each patch and each basis state. -/
abbrev Arr : Type := FVec Ideal S512000x2x2x2x2 .f32
/-- An array of a mask for each patch and each basis state. -/
abbrev Mask : Type := IVec S512000x2x2x2x2 1

/-- The two arrays hold the real and the imaginary parts of the states `ψ`. -/
def Holds (R I : Arr) (ψ : Fin 512000 → Amp) : Prop :=
  ∀ n a b c d, R (ix5 n a b c d) = ((ψ n a b c d).re : EReal) ∧ I (ix5 n a b c d) = ((ψ n a b c d).im : EReal)

/-- The two 2×2 arrays hold the real and the imaginary parts of the gate `g`. -/
def HoldsGate (R I : FVec Ideal S2x2 .f32) (g : Gate) : Prop :=
  ∀ a b, R (ix2 a b) = ((g a b).re : EReal) ∧ I (ix2 a b) = ((g a b).im : EReal)

/-- The real parts of states times a gate, contracted on the last bit. -/
def dotRe (R I : Arr) (gR gI : FVec Ideal S2x2 .f32) : Arr :=
  subf (Host.dotGeneral dot_S512000x2x2x2x2_S2x2_S512000x2x2x2x2_4_0_0123_1_n_n none R (transpose S2x2 [1, 0] gR transposes_S2x2_S2x2_1_0))
    (Host.dotGeneral dot_S512000x2x2x2x2_S2x2_S512000x2x2x2x2_4_0_0123_1_n_n none I (transpose S2x2 [1, 0] gI transposes_S2x2_S2x2_1_0))
/-- The imaginary parts of states times a gate, contracted on the last bit. -/
def dotIm (R I : Arr) (gR gI : FVec Ideal S2x2 .f32) : Arr :=
  addf (Host.dotGeneral dot_S512000x2x2x2x2_S2x2_S512000x2x2x2x2_4_0_0123_1_n_n none R (transpose S2x2 [1, 0] gI transposes_S2x2_S2x2_1_0))
    (Host.dotGeneral dot_S512000x2x2x2x2_S2x2_S512000x2x2x2x2_4_0_0123_1_n_n none I (transpose S2x2 [1, 0] gR transposes_S2x2_S2x2_1_0))

/-- A gate contracted on the last bit turns wire 3. -/
theorem Holds.rot3 {R I : Arr} {ψ : Fin 512000 → Amp} (h : Holds R I ψ) {gR gI : FVec Ideal S2x2 .f32} {g : Gate}
    (hg : HoldsGate gR gI g) : Holds (dotRe R I gR gI) (dotIm R I gR gI) (fun n => rot3 g (ψ n)) := by
  intro n a b c d
  have hR := fun n a b c d => (h n a b c d).1
  have hI := fun n a b c d => (h n a b c d).2
  have gR := fun a b => (hg a b).1
  have gI := fun a b => (hg a b).2
  constructor
  · pointwise [dotRe, hR, hI, gR, gI]
    simp only [Fin.sum_univ_two, ← EReal.coe_mul, ← EReal.coe_add, ← EReal.coe_sub, Circuit.rot3, Complex.add_re, Complex.mul_re]
    congr 1; ring
  · pointwise [dotIm, hR, hI, gR, gI]
    simp only [Fin.sum_univ_two, ← EReal.coe_mul, ← EReal.coe_add, ← EReal.coe_sub, Circuit.rot3, Complex.add_im, Complex.mul_im]
    congr 1; ring

/-- With wire 0 moved last and back, the gate turns wire 0. -/
theorem Holds.rot0 {R I : Arr} {ψ : Fin 512000 → Amp} (h : Holds R I ψ) {gR gI : FVec Ideal S2x2 .f32} {g : Gate}
    (hg : HoldsGate gR gI g) :
    Holds (transpose S512000x2x2x2x2 [0, 4, 1, 2, 3] (dotRe (transpose S512000x2x2x2x2 [0, 2, 3, 4, 1] R transposes_S512000x2x2x2x2_S512000x2x2x2x2_0_2_3_4_1)
        (transpose S512000x2x2x2x2 [0, 2, 3, 4, 1] I transposes_S512000x2x2x2x2_S512000x2x2x2x2_0_2_3_4_1) gR gI) transposes_S512000x2x2x2x2_S512000x2x2x2x2_0_4_1_2_3)
      (transpose S512000x2x2x2x2 [0, 4, 1, 2, 3] (dotIm (transpose S512000x2x2x2x2 [0, 2, 3, 4, 1] R transposes_S512000x2x2x2x2_S512000x2x2x2x2_0_2_3_4_1)
        (transpose S512000x2x2x2x2 [0, 2, 3, 4, 1] I transposes_S512000x2x2x2x2_S512000x2x2x2x2_0_2_3_4_1) gR gI) transposes_S512000x2x2x2x2_S512000x2x2x2x2_0_4_1_2_3)
      (fun n => rot0 g (ψ n)) := by
  intro n a b c d
  have h' : Holds (transpose S512000x2x2x2x2 [0, 2, 3, 4, 1] R transposes_S512000x2x2x2x2_S512000x2x2x2x2_0_2_3_4_1)
      (transpose S512000x2x2x2x2 [0, 2, 3, 4, 1] I transposes_S512000x2x2x2x2_S512000x2x2x2x2_0_2_3_4_1) (fun n b c d a => ψ n a b c d) := by
    intro n b c d a
    constructor
    · pointwise; exact (h n a b c d).1
    · pointwise; exact (h n a b c d).2
  have k := h'.rot3 hg n b c d a
  constructor
  · pointwise; exact k.1
  · pointwise; exact k.2

/-- With wire 1 moved last and back, the gate turns wire 1. -/
theorem Holds.rot1 {R I : Arr} {ψ : Fin 512000 → Amp} (h : Holds R I ψ) {gR gI : FVec Ideal S2x2 .f32} {g : Gate}
    (hg : HoldsGate gR gI g) :
    Holds (transpose S512000x2x2x2x2 [0, 1, 4, 2, 3] (dotRe (transpose S512000x2x2x2x2 [0, 1, 3, 4, 2] R transposes_S512000x2x2x2x2_S512000x2x2x2x2_0_1_3_4_2)
        (transpose S512000x2x2x2x2 [0, 1, 3, 4, 2] I transposes_S512000x2x2x2x2_S512000x2x2x2x2_0_1_3_4_2) gR gI) transposes_S512000x2x2x2x2_S512000x2x2x2x2_0_1_4_2_3)
      (transpose S512000x2x2x2x2 [0, 1, 4, 2, 3] (dotIm (transpose S512000x2x2x2x2 [0, 1, 3, 4, 2] R transposes_S512000x2x2x2x2_S512000x2x2x2x2_0_1_3_4_2)
        (transpose S512000x2x2x2x2 [0, 1, 3, 4, 2] I transposes_S512000x2x2x2x2_S512000x2x2x2x2_0_1_3_4_2) gR gI) transposes_S512000x2x2x2x2_S512000x2x2x2x2_0_1_4_2_3)
      (fun n => rot1 g (ψ n)) := by
  intro n a b c d
  have h' : Holds (transpose S512000x2x2x2x2 [0, 1, 3, 4, 2] R transposes_S512000x2x2x2x2_S512000x2x2x2x2_0_1_3_4_2)
      (transpose S512000x2x2x2x2 [0, 1, 3, 4, 2] I transposes_S512000x2x2x2x2_S512000x2x2x2x2_0_1_3_4_2) (fun n a c d b => ψ n a b c d) := by
    intro n a c d b
    constructor
    · pointwise; exact (h n a b c d).1
    · pointwise; exact (h n a b c d).2
  have k := h'.rot3 hg n a c d b
  constructor
  · pointwise; exact k.1
  · pointwise; exact k.2

/-- With wire 2 moved last and back, the gate turns wire 2. -/
theorem Holds.rot2 {R I : Arr} {ψ : Fin 512000 → Amp} (h : Holds R I ψ) {gR gI : FVec Ideal S2x2 .f32} {g : Gate}
    (hg : HoldsGate gR gI g) :
    Holds (transpose S512000x2x2x2x2 [0, 1, 2, 4, 3] (dotRe (transpose S512000x2x2x2x2 [0, 1, 2, 4, 3] R transposes_S512000x2x2x2x2_S512000x2x2x2x2_0_1_2_4_3)
        (transpose S512000x2x2x2x2 [0, 1, 2, 4, 3] I transposes_S512000x2x2x2x2_S512000x2x2x2x2_0_1_2_4_3) gR gI) transposes_S512000x2x2x2x2_S512000x2x2x2x2_0_1_2_4_3)
      (transpose S512000x2x2x2x2 [0, 1, 2, 4, 3] (dotIm (transpose S512000x2x2x2x2 [0, 1, 2, 4, 3] R transposes_S512000x2x2x2x2_S512000x2x2x2x2_0_1_2_4_3)
        (transpose S512000x2x2x2x2 [0, 1, 2, 4, 3] I transposes_S512000x2x2x2x2_S512000x2x2x2x2_0_1_2_4_3) gR gI) transposes_S512000x2x2x2x2_S512000x2x2x2x2_0_1_2_4_3)
      (fun n => rot2 g (ψ n)) := by
  intro n a b c d
  have h' : Holds (transpose S512000x2x2x2x2 [0, 1, 2, 4, 3] R transposes_S512000x2x2x2x2_S512000x2x2x2x2_0_1_2_4_3)
      (transpose S512000x2x2x2x2 [0, 1, 2, 4, 3] I transposes_S512000x2x2x2x2_S512000x2x2x2x2_0_1_2_4_3) (fun n a b d c => ψ n a b c d) := by
    intro n a b d c
    constructor
    · pointwise; exact (h n a b c d).1
    · pointwise; exact (h n a b c d).2
  have k := h'.rot3 hg n a b d c
  constructor
  · pointwise; exact k.1
  · pointwise; exact k.2

/-- A state read with the bit of wire 0 turned over. -/
def turn0 (ψ : Amp) : Amp := fun a b c d => ψ a.rev b c d
/-- A state read with the bit of wire 1 turned over. -/
def turn1 (ψ : Amp) : Amp := fun a b c d => ψ a b.rev c d
/-- A state read with the bit of wire 2 turned over. -/
def turn2 (ψ : Amp) : Amp := fun a b c d => ψ a b c.rev d
/-- A state read with the bit of wire 3 turned over. -/
def turn3 (ψ : Amp) : Amp := fun a b c d => ψ a b c d.rev

/-- A state reversed along some axes where a mask is set. -/
def flipArr (dims : List (Fin S512000x2x2x2x2.rank)) (M : Mask) (R : Arr) : Arr := select M (Host.reverse dims R) R

/-- Which amplitude a flipped state has at each basis state: the one at `σ` where the control bit `p` is set. -/
def flipBy (p : Fin 2 → Fin 2 → Fin 2 → Fin 2 → Fin 2) (σ : Amp → Amp) (ψ : Amp) : Amp :=
  fun a b c d => if p a b c d = 1 then σ ψ a b c d else ψ a b c d

/-- Reversing along one axis reads the state with that wire's bit turned over; the mask is set where the control bit is:
    then the two arrays hold the flipped states. -/
theorem Holds.flip {R I : Arr} {ψ : Fin 512000 → Amp} (h : Holds R I ψ) {dims : List (Fin S512000x2x2x2x2.rank)} {M : Mask}
    {p : Fin 2 → Fin 2 → Fin 2 → Fin 2 → Fin 2} {σ : Amp → Amp}
    (hM : ∀ n a b c d, M (ix5 n a b c d) = if p a b c d = 1 then 1#1 else 0#1)
    (hσ : Holds (Host.reverse dims R) (Host.reverse dims I) (fun n => σ (ψ n))) :
    Holds (flipArr dims M R) (flipArr dims M I) (fun n => flipBy p σ (ψ n)) := by
  intro n a b c d
  unfold flipArr flipBy select Scalar.select
  rw [hM]
  by_cases hp : p a b c d = 1
  · simp only [hp, if_true]
    exact hσ n a b c d
  · simp only [hp, if_false]
    exact h n a b c d

/-- Reversing along the axis of wire 0 reads the state with its bit turned over. -/
theorem Holds.rev0 {R I : Arr} {ψ : Fin 512000 → Amp} (h : Holds R I ψ) :
    Holds (Host.reverse [1] R) (Host.reverse [1] I) (fun n => turn0 (ψ n)) := fun n a b c d =>
  ⟨by pointwise; exact (h n a.rev b c d).1, by pointwise; exact (h n a.rev b c d).2⟩

/-- Reversing along the axis of wire 1 reads the state with its bit turned over. -/
theorem Holds.rev1 {R I : Arr} {ψ : Fin 512000 → Amp} (h : Holds R I ψ) :
    Holds (Host.reverse [2] R) (Host.reverse [2] I) (fun n => turn1 (ψ n)) := fun n a b c d =>
  ⟨by pointwise; exact (h n a b.rev c d).1, by pointwise; exact (h n a b.rev c d).2⟩

/-- Reversing along the axis of wire 2 reads the state with its bit turned over. -/
theorem Holds.rev2 {R I : Arr} {ψ : Fin 512000 → Amp} (h : Holds R I ψ) :
    Holds (Host.reverse [3] R) (Host.reverse [3] I) (fun n => turn2 (ψ n)) := fun n a b c d =>
  ⟨by pointwise; exact (h n a b c.rev d).1, by pointwise; exact (h n a b c.rev d).2⟩

/-- Reversing along the axis of wire 3 reads the state with its bit turned over. -/
theorem Holds.rev3 {R I : Arr} {ψ : Fin 512000 → Amp} (h : Holds R I ψ) :
    Holds (Host.reverse [4] R) (Host.reverse [4] I) (fun n => turn3 (ψ n)) := fun n a b c d =>
  ⟨by pointwise; exact (h n a b c d.rev).1, by pointwise; exact (h n a b c d.rev).2⟩

/-- The mask of a flip that wire 0 controls. -/
theorem mask0_apply (n : Fin 512000) (a b c d : Fin 2) :
    val_main_call2_v0 (F := Ideal) (ix5 n a b c d) = if a = 1 then 1#1 else 0#1 := by
  pointwise [val_main_call2_v0, val_main_v155, val_main_v154, val_main_v153, val_main_c_7, val_main_v152]
  fin_cases a <;> rfl

/-- The mask of a flip that wire 1 controls. -/
theorem mask1_apply (n : Fin 512000) (a b c d : Fin 2) :
    val_main_call6_v0 (F := Ideal) (ix5 n a b c d) = if b = 1 then 1#1 else 0#1 := by
  pointwise [val_main_call6_v0, val_main_v163, val_main_v162, val_main_v161, val_main_c_8, val_main_v160]
  fin_cases b <;> rfl

/-- The mask of a flip that wire 2 controls. -/
theorem mask2_apply (n : Fin 512000) (a b c d : Fin 2) :
    val_main_call10_v0 (F := Ideal) (ix5 n a b c d) = if c = 1 then 1#1 else 0#1 := by
  pointwise [val_main_call10_v0, val_main_v171, val_main_v170, val_main_v169, val_main_c_9, val_main_v168]
  fin_cases c <;> rfl

/-- The mask of a flip that wire 3 controls. -/
theorem mask3_apply (n : Fin 512000) (a b c d : Fin 2) :
    val_main_call14_v0 (F := Ideal) (ix5 n a b c d) = if d = 1 then 1#1 else 0#1 := by
  pointwise [val_main_call14_v0, val_main_v179, val_main_v178, val_main_v177, val_main_c_10, val_main_v176]
  fin_cases d <;> rfl

/-- A 2×2 part of the arrays of gates holds one gate. -/
theorem holdsGate (w : S2x4x3.Idx → ℝ) (l : Fin 2) (q : Fin 4) {R I : FVec Ideal S2x2 .f32}
    (hR : ∀ a b, R (ix2 a b) = val_main_v63 (F := Ideal) (up w) (ix4 l q a b))
    (hI : ∀ a b, I (ix2 a b) = val_main_v83 (F := Ideal) (up w) (ix4 l q a b)) : HoldsGate R I (gate w l q) :=
  fun a b => ⟨(hR a b).trans (gateRe_eq w l q a b), (hI a b).trans (gateIm_eq w l q a b)⟩

/-- The states after the first layer. -/
theorem holds_layer0 (x : (⟨S64x512x64, .f32⟩ : BufTy).Contents (Elt Ideal)) (w : S2x4x3.Idx → ℝ) {ψ : Fin 512000 → Amp}
    (h : Holds (val_main_v24 (F := Ideal) x) (val_main_v25 (F := Ideal)) ψ) :
    Holds (val_main_v181 (F := Ideal) x (up w)) (val_main_v183 (F := Ideal) x (up w)) (fun n => layer0 (gate w 0) (ψ n)) := by
  have g0 : HoldsGate (val_main_v85 (F := Ideal) (up w)) (val_main_v87 (F := Ideal) (up w)) (gate w 0 0) :=
    holdsGate w 0 0 (fun a b => by pointwise [val_main_v85, val_main_v84]) (fun a b => by pointwise [val_main_v87, val_main_v86])
  have g1 : HoldsGate (val_main_v103 (F := Ideal) (up w)) (val_main_v105 (F := Ideal) (up w)) (gate w 0 1) :=
    holdsGate w 0 1 (fun a b => by pointwise [val_main_v103, val_main_v102]) (fun a b => by pointwise [val_main_v105, val_main_v104])
  have g2 : HoldsGate (val_main_v121 (F := Ideal) (up w)) (val_main_v123 (F := Ideal) (up w)) (gate w 0 2) :=
    holdsGate w 0 2 (fun a b => by pointwise [val_main_v121, val_main_v120]) (fun a b => by pointwise [val_main_v123, val_main_v122])
  have g3 : HoldsGate (val_main_v139 (F := Ideal) (up w)) (val_main_v141 (F := Ideal) (up w)) (gate w 0 3) :=
    holdsGate w 0 3 (fun a b => by pointwise [val_main_v139, val_main_v138]) (fun a b => by pointwise [val_main_v141, val_main_v140])
  have r0 : Holds (val_main_v100 (F := Ideal) x (up w)) (val_main_v101 (F := Ideal) x (up w)) _ := h.rot0 g0
  have r1 : Holds (val_main_v118 (F := Ideal) x (up w)) (val_main_v119 (F := Ideal) x (up w)) _ := r0.rot1 g1
  have r2 : Holds (val_main_v136 (F := Ideal) x (up w)) (val_main_v137 (F := Ideal) x (up w)) _ := r1.rot2 g2
  have r3 : Holds (val_main_v146 (F := Ideal) x (up w)) (val_main_v151 (F := Ideal) x (up w)) _ := r2.rot3 g3
  have f0 : Holds (val_main_v157 (F := Ideal) x (up w)) (val_main_v159 (F := Ideal) x (up w)) _ := r3.flip mask0_apply r3.rev1
  have f1 : Holds (val_main_v165 (F := Ideal) x (up w)) (val_main_v167 (F := Ideal) x (up w)) _ := f0.flip mask1_apply f0.rev2
  have f2 : Holds (val_main_v173 (F := Ideal) x (up w)) (val_main_v175 (F := Ideal) x (up w)) _ := f1.flip mask2_apply f1.rev3
  exact f2.flip mask3_apply f2.rev0

/-- The states after the second layer. -/
theorem holds_layer1 (x : (⟨S64x512x64, .f32⟩ : BufTy).Contents (Elt Ideal)) (w : S2x4x3.Idx → ℝ) {ψ : Fin 512000 → Amp}
    (h : Holds (val_main_v181 (F := Ideal) x (up w)) (val_main_v183 (F := Ideal) x (up w)) ψ) :
    Holds (val_main_v281 (F := Ideal) x (up w)) (val_main_v283 (F := Ideal) x (up w)) (fun n => layer1 (gate w 1) (ψ n)) := by
  have g0 : HoldsGate (val_main_v185 (F := Ideal) (up w)) (val_main_v187 (F := Ideal) (up w)) (gate w 1 0) :=
    holdsGate w 1 0 (fun a b => by pointwise [val_main_v185, val_main_v184]) (fun a b => by pointwise [val_main_v187, val_main_v186])
  have g1 : HoldsGate (val_main_v203 (F := Ideal) (up w)) (val_main_v205 (F := Ideal) (up w)) (gate w 1 1) :=
    holdsGate w 1 1 (fun a b => by pointwise [val_main_v203, val_main_v202]) (fun a b => by pointwise [val_main_v205, val_main_v204])
  have g2 : HoldsGate (val_main_v221 (F := Ideal) (up w)) (val_main_v223 (F := Ideal) (up w)) (gate w 1 2) :=
    holdsGate w 1 2 (fun a b => by pointwise [val_main_v221, val_main_v220]) (fun a b => by pointwise [val_main_v223, val_main_v222])
  have g3 : HoldsGate (val_main_v239 (F := Ideal) (up w)) (val_main_v241 (F := Ideal) (up w)) (gate w 1 3) :=
    holdsGate w 1 3 (fun a b => by pointwise [val_main_v239, val_main_v238]) (fun a b => by pointwise [val_main_v241, val_main_v240])
  have r0 : Holds (val_main_v200 (F := Ideal) x (up w)) (val_main_v201 (F := Ideal) x (up w)) _ := h.rot0 g0
  have r1 : Holds (val_main_v218 (F := Ideal) x (up w)) (val_main_v219 (F := Ideal) x (up w)) _ := r0.rot1 g1
  have r2 : Holds (val_main_v236 (F := Ideal) x (up w)) (val_main_v237 (F := Ideal) x (up w)) _ := r1.rot2 g2
  have r3 : Holds (val_main_v246 (F := Ideal) x (up w)) (val_main_v251 (F := Ideal) x (up w)) _ := r2.rot3 g3
  have f0 : Holds (val_main_v257 (F := Ideal) x (up w)) (val_main_v259 (F := Ideal) x (up w)) _ := r3.flip mask0_apply r3.rev2
  have f1 : Holds (val_main_v265 (F := Ideal) x (up w)) (val_main_v267 (F := Ideal) x (up w)) _ := f0.flip mask1_apply f0.rev3
  have f2 : Holds (val_main_v273 (F := Ideal) x (up w)) (val_main_v275 (F := Ideal) x (up w)) _ := f1.flip mask2_apply f1.rev0
  exact f2.flip mask3_apply f2.rev1

end Cert.Circuit

end
-- ==== Proof.Patches.lean ====
/-
  The patches of the reference: sixteen consecutive entries of one channel, starting at every fourth entry, each shifted
  by a small constant; and the state of a patch, which is the patch divided by its norm.
-/
module

public import proofs.«01_k».proof.Proof.States

@[expose] public section

set_option maxRecDepth 16384

noncomputable section

namespace Cert.Circuit

open Idealize.ShloMosaic Idealize.ShloMosaic.TcCoe Idealize.SL.Sem
open Cert.ReferenceIdeal Cert.ReferenceIdeal.Gen Cert.ReferenceIdeal.Read

/-- Taking columns of a 4096×512 array at a 125×16 array of column numbers, read at an index. -/
theorem gather_columns_apply {α : Type} (x : S4096x512.Idx → α) (idx : IVec S125x16x1 32) (b : Fin 4096) (p : Fin 125) (j : Fin 16) (l : Fin 512)
    (h : idx (ix3 p j 0) = BitVec.ofNat 32 l.val) :
    Host.gather gather_S4096x512_S125x16x1_S4096x125x16_0_1_n_n_1_2_40961 x idx (ix3 b p j) = x (ix2 b l) := by
  unfold Host.gather
  refine congrArg x (funext fun a => Fin.ext ?_)
  show GatherDims.start _ (ix3 b p j) idx a + GatherDims.batchCoord _ (ix3 b p j) a + GatherDims.offCoord _ (ix3 b p j) a = _
  rw [GatherDims.batchCoord_eq_zero _ _ _ List.not_mem_nil]
  match a with
  | ⟨0, h0⟩ =>
    have e1 : GatherDims.start gather_S4096x512_S125x16x1_S4096x125x16_0_1_n_n_1_2_40961 (ix3 b p j) idx ⟨0, h0⟩ = 0 :=
      dif_neg (show ¬ (0 : Fin 2) ∈ [1] by decide)
    have e2 : GatherDims.offCoord gather_S4096x512_S125x16x1_S4096x125x16_0_1_n_n_1_2_40961 (ix3 b p j) ⟨0, h0⟩ = b.val :=
      dif_pos (show (0 : Fin 2) ∈ GatherDims.sKept gather_S4096x512_S125x16x1_S4096x125x16_0_1_n_n_1_2_40961 by decide)
    rw [e1, e2]
    exact Nat.zero_add _
  | ⟨1, h1⟩ =>
    have hsi : GatherDims.siIdx gather_S4096x512_S125x16x1_S4096x125x16_0_1_n_n_1_2_40961 (ix3 b p j) ⟨List.idxOf (1 : Fin 2) [1], by decide⟩ = ix3 p j 0 := by
      funext b'; refine Fin.ext ?_
      match b' with
      | ⟨0, _⟩ => rfl
      | ⟨1, _⟩ => rfl
      | ⟨2, _⟩ => rfl
    have e1 : GatherDims.start gather_S4096x512_S125x16x1_S4096x125x16_0_1_n_n_1_2_40961 (ix3 b p j) idx ⟨1, h1⟩ = l.val := by
      have hl := l.isLt
      refine (dif_pos (show (1 : Fin 2) ∈ [1] by decide)).trans ?_
      refine (congrArg (fun i => min (idx i).toInt.toNat 511) hsi).trans ?_
      show min (idx (ix3 p j 0)).toInt.toNat 511 = l.val
      rw [h, toInt_small _ (by omega)]
      omega
    have e2 : GatherDims.offCoord gather_S4096x512_S125x16x1_S4096x125x16_0_1_n_n_1_2_40961 (ix3 b p j) ⟨1, h1⟩ = 0 :=
      GatherDims.offCoord_eq_zero _ _ _ (show ¬ (1 : Fin 2) ∈ GatherDims.sKept gather_S4096x512_S125x16x1_S4096x125x16_0_1_n_n_1_2_40961 by decide)
    rw [e1, e2]
    rfl

/-- The column number of entry `j` of patch `p`. -/
theorem v16_apply (p : Fin 125) (j : Fin 16) : val_main_v16 (F := Ideal) (ix3 p j 0) = BitVec.ofNat 32 (4 * p.val + j.val) := by
  pointwise [val_main_v16, val_main_v15, val_main_v14, val_main_v13, val_main_c_1, val_main_v12, val_main_v11, val_main_c_0, val_main_v10,
    val_main_v9, val_main_v8, val_main_v7, val_main_v6, val_main_v5, val_main_v4, val_main_c, val_main_v3, val_main_v2]
  have hp := p.isLt
  have hj := j.isLt
  have e : IntOp.addi (IntOp.muli (BitVec.ofNat 32 p.val) 4#32) (BitVec.ofNat 32 j.val) = BitVec.ofNat 32 (4 * p.val + j.val) := by
    apply BitVec.eq_of_toNat_eq
    simp [IntOp.addi, IntOp.muli]
    omega
  have c : IntOp.cmpi CmpIPredicate.slt (BitVec.ofNat 32 (4 * p.val + j.val)) 0#32 = 0#1 := by
    simp [IntOp.cmpi, BitVec.slt]
    rw [toInt_small _ (by omega), decide_eq_false (by omega)]
    rfl
  rw [e, c]
  rfl

/-- Entry `j` of patch `p` of row `b`, shifted. -/
def patch (x : S64x512x64.Idx → ℝ) (b : Fin 4096) (p : Fin 125) (j : Fin 16) : ℝ :=
  x (ix3 ⟨b.val / 64, by omega⟩ ⟨4 * p.val + j.val, by omega⟩ ⟨b.val % 64, by omega⟩) + eps

/-- The reference's array of rows: one for each channel of each batch entry. -/
theorem v1_apply (x : S64x512x64.Idx → ℝ) (b : Fin 4096) (l : Fin 512) :
    val_main_v1 (F := Ideal) (up x) (ix2 b l) = (x (ix3 ⟨b.val / 64, by omega⟩ l ⟨b.val % 64, by omega⟩) : EReal) := by
  pointwise [val_main_v1, val_main_v0, up_apply]

/-- The row a patch number belongs to. -/
def rowOf (n : Fin 512000) : Fin 4096 := ⟨n.val / 125, by omega⟩
/-- The place of a patch number in its row. -/
def placeOf (n : Fin 512000) : Fin 125 := ⟨n.val % 125, by omega⟩

/-- The reference's array of patches. -/
theorem v20_apply (x : S64x512x64.Idx → ℝ) (n : Fin 512000) (j : Fin 16) :
    val_main_v20 (F := Ideal) (up x) (ix2 n j) = (patch x (rowOf n) (placeOf n) j : EReal) := by
  pointwise [val_main_v20, val_main_v19, val_main_cst, val_main_v18, val_main_v17]
  have hp : n.val % 125 < 125 := Nat.mod_lt _ (by norm_num)
  rw [gather_columns_apply _ _ _ _ _ ⟨4 * (n.val % 125) + j.val, by omega⟩ (v16_apply _ _), v1_apply, word_eps, ← EReal.coe_add, patch, rowOf, placeOf]

/-- The squared norm of a patch. -/
def normSq (x : S64x512x64.Idx → ℝ) (b : Fin 4096) (p : Fin 125) : ℝ := ∑ j, patch x b p j * patch x b p j

/-- The reference's array of squared norms. -/
theorem v0_apply (x : S64x512x64.Idx → ℝ) (n : Fin 512000) :
    val_main_call0_v1 (F := Ideal) (up x) (ix1 n) = (normSq x (rowOf n) (placeOf n) : EReal) := by
  pointwise [val_main_call0_v1, val_main_call0_cst, val_main_call0_v0, v20_apply]
  simp only [← EReal.coe_mul, zero_add]
  rw [← coe_sum, normSq]

/-- The reference's array of norms. -/
theorem v22_apply (x : S64x512x64.Idx → ℝ) (n : Fin 512000) (j : Fin 16) :
    val_main_v22 (F := Ideal) (up x) (ix2 n j) = (√(normSq x (rowOf n) (placeOf n)) : EReal) := by
  have e : idx_main_call0_v2 (idx_main_v22 (ix2 n j)) = ix1 n := by
    funext a
    match a with
    | ⟨0, _⟩ => rfl
  rw [val_main_v22_apply, val_main_v21_apply, val_main_call0_v2_apply, e, v0_apply]
  refine (Ideal.sqrt_coe _).trans (if_neg (not_lt.mpr ?_))
  exact Finset.sum_nonneg fun j _ => mul_self_nonneg _

/-- The state of a patch: the patch divided by its norm. -/
def state (x : S64x512x64.Idx → ℝ) (b : Fin 4096) (p : Fin 125) : Amp :=
  fun a₀ a₁ a₂ a₃ => ((patch x b p ⟨8 * a₀.val + 4 * a₁.val + 2 * a₂.val + a₃.val, by omega⟩ / √(normSq x b p) : ℝ) : ℂ)

/-- The reference's arrays before the first layer hold the states of the patches. -/
theorem holds_state (x : S64x512x64.Idx → ℝ) (hx : ∀ b p, 0 < normSq x b p) :
    Holds (val_main_v24 (F := Ideal) (up x)) (val_main_v25 (F := Ideal)) (fun n => state x (rowOf n) (placeOf n)) := by
  intro n a b c d
  constructor
  · have e : idx_main_v24 (ix5 n a b c d) = ix2 n ⟨8 * a.val + 4 * b.val + 2 * c.val + d.val, by omega⟩ := by
      funext k
      refine Fin.ext ?_
      match k with
      | ⟨0, _⟩ =>
        show ((((n.val * 2 + a.val) * 2 + b.val) * 2 + c.val) * 2 + d.val) / 16 = n.val
        omega
      | ⟨1, _⟩ =>
        show ((((n.val * 2 + a.val) * 2 + b.val) * 2 + c.val) * 2 + d.val) % 16 = 8 * a.val + 4 * b.val + 2 * c.val + d.val
        omega
    rw [val_main_v24_apply, val_main_v23_apply, e, v20_apply, v22_apply, Ideal.hostDivf_def]
    have h0 : √(normSq x (rowOf n) (placeOf n)) ≠ 0 := (Real.sqrt_pos.mpr (hx _ _)).ne'
    rw [Ideal.div_coe h0, ← EReal.coe_mul]
    simp only [state, Complex.ofReal_re, mul_one_div]
  · pointwise [val_main_v25, val_main_cst_2]
    rw [state, Complex.ofReal_im, EReal.coe_zero]

end Cert.Circuit

end
-- ==== Proof.RefValue.lean ====
/-
  What the reference computes: the probabilities of the sixteen basis states of every patch, their signed sums for the
  four wires, and the linear head over the patches of a row.
-/
module

public import proofs.«01_k».proof.Proof.Patches

@[expose] public section

set_option maxRecDepth 16384

noncomputable section

namespace Cert.Circuit

open Idealize.ShloMosaic Idealize.ShloMosaic.TcCoe Idealize.SL.Sem
open Cert.ReferenceIdeal Cert.ReferenceIdeal.Gen Cert.ReferenceIdeal.Read

/-- The circuit's matrix at the weights. -/
def circ (w : S2x4x3.Idx → ℝ) : Fin 16 → Fin 16 → ℂ := unitary (gate w 0) (gate w 1)

/-- The probability of basis state `i` after the circuit, for a patch. -/
def prob (x : S64x512x64.Idx → ℝ) (w : S2x4x3.Idx → ℝ) (b : Fin 4096) (p : Fin 125) (i : Fin 16) : ℝ :=
  ((∑ j, (circ w i j).re * patch x b p j) * (∑ j, (circ w i j).re * patch x b p j)
    + (∑ j, (circ w i j).im * patch x b p j) * (∑ j, (circ w i j).im * patch x b p j)) * (1 / normSq x b p)

/-- The sign of basis state `i` for wire `q`. -/
def sgn (i : Fin 16) (q : Fin 4) : ℝ := 1 - 2 * ((i.val / 2 ^ (3 - q.val) % 2 : ℕ) : ℝ)

theorem state_flat (x : S64x512x64.Idx → ℝ) (b : Fin 4096) (p : Fin 125) (j : Fin 16) :
    flat (state x b p) j = ((patch x b p j / √(normSq x b p) : ℝ) : ℂ) := by
  unfold flat state
  congr 4
  show 8 * (j.val / 8) + 4 * (j.val / 4 % 2) + 2 * (j.val / 2 % 2) + j.val % 2 = j.val
  omega

/-- The squared size of an amplitude after both layers is the probability. -/
theorem prob_eq (x : S64x512x64.Idx → ℝ) (w : S2x4x3.Idx → ℝ) (hx : ∀ b p, 0 < normSq x b p) (b : Fin 4096) (p : Fin 125) (i : Fin 16) :
    (flat (layer1 (gate w 1) (layer0 (gate w 0) (state x b p))) i).re * (flat (layer1 (gate w 1) (layer0 (gate w 0) (state x b p))) i).re
      + (flat (layer1 (gate w 1) (layer0 (gate w 0) (state x b p))) i).im * (flat (layer1 (gate w 1) (layer0 (gate w 0) (state x b p))) i).im
      = prob x w b p i := by
  rw [flat_layers]
  have hs : √(normSq x b p) * √(normSq x b p) = normSq x b p := Real.mul_self_sqrt (hx b p).le
  have h0 : √(normSq x b p) ≠ 0 := (Real.sqrt_pos.mpr (hx b p)).ne'
  have hre : (∑ j, unitary (gate w 0) (gate w 1) i j * flat (state x b p) j).re = (∑ j, (circ w i j).re * patch x b p j) / √(normSq x b p) := by
    rw [Complex.re_sum, Finset.sum_div]
    refine Finset.sum_congr rfl fun j _ => ?_
    rw [state_flat, Complex.re_mul_ofReal, mul_div_assoc, circ]
  have him : (∑ j, unitary (gate w 0) (gate w 1) i j * flat (state x b p) j).im = (∑ j, (circ w i j).im * patch x b p j) / √(normSq x b p) := by
    rw [Complex.im_sum, Finset.sum_div]
    refine Finset.sum_congr rfl fun j _ => ?_
    rw [state_flat, Complex.im_mul_ofReal, mul_div_assoc, circ]
  rw [hre, him, prob, div_mul_div_comm, div_mul_div_comm, hs, ← add_div, mul_one_div]

/-- The reference's array of probabilities. -/
theorem v288_apply (x : S64x512x64.Idx → ℝ) (w : S2x4x3.Idx → ℝ) (hx : ∀ b p, 0 < normSq x b p) (n : Fin 512000) (i : Fin 16) :
    val_main_v288 (F := Ideal) (up x) (up w) (ix2 n i) = (prob x w (rowOf n) (placeOf n) i : EReal) := by
  have h := holds_layer1 (up x) w (holds_layer0 (up x) w (holds_state x hx)) n (bit0 i) (bit1 i) (bit2 i) (bit3 i)
  have e : idx_main_v284 (ix2 n i) = ix5 n (bit0 i) (bit1 i) (bit2 i) (bit3 i) := by
    funext k
    refine Fin.ext ?_
    match k with
    | ⟨0, _⟩ => show (n.val * 16 + i.val) / 16 = n.val; omega
    | ⟨1, _⟩ => show (n.val * 16 + i.val) / 8 % 2 = i.val / 8; omega
    | ⟨2, _⟩ => show (n.val * 16 + i.val) / 4 % 2 = i.val / 4 % 2; omega
    | ⟨3, _⟩ => show (n.val * 16 + i.val) / 2 % 2 = i.val / 2 % 2; omega
    | ⟨4, _⟩ => show (n.val * 16 + i.val) % 2 = i.val % 2; omega
  have e' : idx_main_v285 (ix2 n i) = ix5 n (bit0 i) (bit1 i) (bit2 i) (bit3 i) := e
  rw [val_main_v288_apply, val_main_v287_apply, val_main_v286_apply, val_main_v284_apply, val_main_v285_apply, e, e', h.1, h.2,
    ← prob_eq x w hx]
  rfl

/-- The reference's array of signs. -/
theorem v304_apply (i : Fin 16) (q : Fin 4) : val_main_v304 (F := Ideal) (ix2 i q) = (sgn i q : EReal) := by
  pointwise [val_main_v304, val_main_v303, val_main_cst_18, val_main_v302, val_main_v301, val_main_cst_17, val_main_v300, val_main_v299,
    val_main_v298, val_main_c_16, val_main_v297, val_main_v296, val_main_v295, val_main_v294, val_main_v293, val_main_v292, val_main_c_15,
    val_main_v291, val_main_v290, val_main_v289, word_two]
  have h : ∀ (i : Fin 16) (q : Fin 4), (IntOp.andi (IntOp.shrsi ArithUnit.host (BitVec.ofNat 32 i.val) (IntOp.subi (3#32) (BitVec.ofNat 32 q.val))) 1#32).toInt
      = ((i.val / 2 ^ (3 - q.val) % 2 : ℕ) : ℤ) := by decide
  rw [show ∀ v : BitVec 32, (FloatOps.sitofp (F := Ideal) FTy.f32 v : EReal) = ((v.toInt : ℝ) : EReal) from fun _ => rfl, h, Int.cast_natCast, sgn,
    ← EReal.coe_mul, EReal.coe_sub, EReal.coe_one]

/-- The signed sum of the probabilities of a patch, for wire `q`. -/
def expect (x : S64x512x64.Idx → ℝ) (w : S2x4x3.Idx → ℝ) (b : Fin 4096) (p : Fin 125) (q : Fin 4) : ℝ := ∑ i, prob x w b p i * sgn i q

/-- The head without its bias: the signed sums of all patches and wires of a row, weighted. -/
def head (x : S64x512x64.Idx → ℝ) (w : S2x4x3.Idx → ℝ) (hw : S96x500.Idx → ℝ) (b : Fin 4096) (t : Fin 96) : ℝ :=
  ∑ r : Fin 500, expect x w b ⟨r.val / 4, by omega⟩ ⟨r.val % 4, by omega⟩ * hw (ix2 t r)

/-- The reference's array of signed sums. -/
theorem v305_apply (x : S64x512x64.Idx → ℝ) (w : S2x4x3.Idx → ℝ) (hx : ∀ b p, 0 < normSq x b p) (n : Fin 512000) (q : Fin 4) :
    val_main_v305 (F := Ideal) (up x) (up w) (ix2 n q) = (expect x w (rowOf n) (placeOf n) q : EReal) := by
  pointwise [val_main_v305, v288_apply x w hx, v304_apply]
  simp only [← EReal.coe_mul]
  rw [← coe_sum, expect]

/-- The reference's array of signed sums, by row. -/
theorem v306_apply (x : S64x512x64.Idx → ℝ) (w : S2x4x3.Idx → ℝ) (hx : ∀ b p, 0 < normSq x b p) (b : Fin 4096) (r : Fin 500) :
    val_main_v306 (F := Ideal) (up x) (up w) (ix2 b r) = (expect x w b ⟨r.val / 4, by omega⟩ ⟨r.val % 4, by omega⟩ : EReal) := by
  have hb := b.isLt
  have hr := r.isLt
  have e : idx_main_v306 (ix2 b r) = ix2 ⟨125 * b.val + r.val / 4, by omega⟩ ⟨r.val % 4, by omega⟩ := by
    funext k
    refine Fin.ext ?_
    match k with
    | ⟨0, _⟩ => show (b.val * 500 + r.val) / 4 = 125 * b.val + r.val / 4; omega
    | ⟨1, _⟩ => show (b.val * 500 + r.val) % 4 = r.val % 4; omega
  rw [val_main_v306_apply, e, v305_apply x w hx]
  congr 2
  · exact Fin.ext (by show (125 * b.val + r.val / 4) / 125 = b.val; omega)
  · exact Fin.ext (by show (125 * b.val + r.val / 4) % 125 = r.val / 4; omega)

/-- The reference's result: the head of a row plus the bias. -/
theorem v313_apply (x : S64x512x64.Idx → ℝ) (w : S2x4x3.Idx → ℝ) (hw : S96x500.Idx → ℝ) (hb : FVec Ideal S96 .f32)
    (hx : ∀ b p, 0 < normSq x b p) (B : Fin 64) (t : Fin 96) (m : Fin 64) :
    val_main_v313 (F := Ideal) (up x) (up w) (up hw) hb (ix3 B t m) = (head x w hw ⟨B.val * 64 + m.val, by omega⟩ t : EReal) + hb (ix1 t) := by
  pointwise [val_main_v313, val_main_v312, val_main_v311, val_main_v310, val_main_v309, val_main_v308, val_main_v307, v306_apply x w hx, up_apply]
  simp only [← EReal.coe_mul]
  rw [← coe_sum, head]

end Cert.Circuit

end
-- ==== Proof.Sums.lean ====
/-
  The block's sum over rows of the circuit and patches is the head of the reference's signed sums.
-/
module

public import Idealize.ShloMosaic.Lib.Pipeline.ValueKit
public import proofs.«01_k».proof.Proof.Block
public import proofs.«01_k».proof.Proof.Weights
public import proofs.«01_k».proof.Proof.RefValue

@[expose] public section

set_option maxRecDepth 16384

noncomputable section

namespace Cert.Circuit

open Idealize.ShloMosaic Idealize.ShloMosaic.TcCoe Idealize.SL.Sem
open Cert.KernelIdeal Cert.KernelIdeal.Gen

/-- One where element `l` lies in patch `p`, and zero elsewhere. -/
def within (p : Fin 128) (l : Fin 512) : ℝ := if p.val < 125 ∧ 4 * p.val ≤ l.val ∧ l.val < 4 * p.val + 16 then 1 else 0

/-- Summing over all elements, picking out the `j`-th of a patch, leaves that element. -/
theorem sum_pick (j : Fin 16) (p : Fin 128) (hp : p.val < 125) (f : Fin 512 → ℝ) :
    ∑ l, pick j p l * f l = f ⟨4 * p.val + j.val, by omega⟩ := by
  rw [Finset.sum_eq_single (⟨4 * p.val + j.val, by omega⟩ : Fin 512)]
  · rw [pick, if_pos ⟨hp, rfl⟩, one_mul]
  · intro l _ hl
    rw [pick, if_neg (fun e => hl (Fin.ext e.2)), zero_mul]
  · intro h
    exact absurd (Finset.mem_univ _) h

/-- An element lies in a patch when it is one of its sixteen. -/
theorem within_eq (p : Fin 128) (l : Fin 512) : within p l = ∑ j, pick j p l := by
  by_cases h : p.val < 125 ∧ 4 * p.val ≤ l.val ∧ l.val < 4 * p.val + 16
  · rw [within, if_pos h, Finset.sum_eq_single (⟨l.val - 4 * p.val, by omega⟩ : Fin 16)]
    · rw [pick, if_pos ⟨h.1, by show l.val = 4 * p.val + (l.val - 4 * p.val); omega⟩]
    · intro j _ hj
      rw [pick, if_neg]
      intro e
      exact hj (Fin.ext (by show j.val = l.val - 4 * p.val; omega))
    · intro e
      exact absurd (Finset.mem_univ _) e
  · rw [within, if_neg h]
    refine (Finset.sum_eq_zero fun j _ => ?_).symm
    rw [pick, if_neg]
    intro e
    have := j.isLt
    exact h (by omega)

/-- The row of the circuit over a column, with its offset, is its row over the shifted patch. -/
theorem affine_eq (u : Fin 2 → Fin 16 → Fin 16 → ℝ) (X : Fin 512 → ℝ) (r : Fin 4096) (hp : r.val % 128 < 125) :
    affine (weight u) (offset u) X r =
      ∑ j : Fin 16, u ⟨r.val / 2048, by omega⟩ ⟨r.val / 128 % 16, by omega⟩ j * (X ⟨4 * (r.val % 128) + j.val, by omega⟩ + eps) := by
  have h : ∑ l, weight u r l * X l = ∑ j : Fin 16, u ⟨r.val / 2048, by omega⟩ ⟨r.val / 128 % 16, by omega⟩ j * X ⟨4 * (r.val % 128) + j.val, by omega⟩ := by
    simp only [weight, Finset.sum_mul]
    rw [Finset.sum_comm]
    refine Finset.sum_congr rfl fun j _ => ?_
    simp only [mul_assoc]
    rw [← Finset.mul_sum, sum_pick j ⟨r.val % 128, by omega⟩ hp]
  rw [affine, h, offset, Finset.mul_sum, ← Finset.sum_add_distrib]
  exact Finset.sum_congr rfl fun j _ => by ring

/-- The block's squared norm of a patch is that of the shifted patch. -/
theorem blockNorm_eq (X : Fin 512 → ℝ) (p : Fin 128) (hp : p.val < 125) :
    blockNorm within X p = ∑ j : Fin 16, (X ⟨4 * p.val + j.val, by omega⟩ + eps) * (X ⟨4 * p.val + j.val, by omega⟩ + eps) := by
  have h : ∑ l, within p l * (X l * X l + 2 * eps * X l) =
      ∑ j : Fin 16, (X ⟨4 * p.val + j.val, by omega⟩ * X ⟨4 * p.val + j.val, by omega⟩ + 2 * eps * X ⟨4 * p.val + j.val, by omega⟩) := by
    simp only [within_eq, Finset.sum_mul]
    rw [Finset.sum_comm]
    exact Finset.sum_congr rfl fun j _ => sum_pick j p hp fun l => X l * X l + 2 * eps * X l
  have hc : (16 * (eps * eps) : ℝ) = ∑ _j : Fin 16, eps * eps := by
    rw [Finset.sum_const, Finset.card_univ, Fintype.card_fin, nsmul_eq_mul]
    norm_num
  rw [blockNorm, h, hc, ← Finset.sum_add_distrib]
  exact Finset.sum_congr rfl fun j _ => by ring

/-- The block's squared norm of an empty patch is the constant. -/
theorem blockNorm_empty (X : Fin 512 → ℝ) (p : Fin 128) (hp : ¬ p.val < 125) : blockNorm within X p = 16 * (eps * eps) := by
  rw [blockNorm, Finset.sum_eq_zero, zero_add]
  intro l _
  rw [within, if_neg (fun e => hp e.1), zero_mul]

section Head

variable (x : S64x512x64.Idx → ℝ) (w : S2x4x3.Idx → ℝ) (hw : S96x500.Idx → ℝ)

/-- The column of channel and batch entry `b`. -/
def column (b : Fin 4096) (l : Fin 512) : ℝ := x (ix3 ⟨b.val / 64, by omega⟩ l ⟨b.val % 64, by omega⟩)

/-- The two parts of the circuit. -/
def parts (c : Fin 2) (i j : Fin 16) : ℝ := part c (circ w i j)

theorem norm_column (b : Fin 4096) (p : Fin 125) : blockNorm within (column x b) ⟨p.val, by omega⟩ = normSq x b p :=
  blockNorm_eq (column x b) ⟨p.val, by omega⟩ p.isLt

/-- No squared norm of a block is zero. -/
theorem norm_ne (hx : ∀ b p, 0 < normSq x b p) (b : Fin 4096) (p : Fin 128) : blockNorm within (column x b) p ≠ 0 := by
  by_cases hp : p.val < 125
  · exact (norm_column x b ⟨p.val, hp⟩).trans_ne (hx b ⟨p.val, hp⟩).ne'
  · rw [blockNorm_empty _ _ hp]
    have := eps_pos
    positivity

/-- A row of the circuit over a column: part `c` of row `k` of the circuit over the patch. -/
theorem affine_column (b : Fin 4096) (c : Fin 2) (k : Fin 16) (p : Fin 125) (r : Fin 4096) (hr : r.val = c.val * 2048 + (k.val * 128 + p.val)) :
    affine (weight (parts w)) (offset (parts w)) (column x b) r = ∑ j, part c (circ w k j) * patch x b p j := by
  have h1 : r.val / 2048 = c.val := by omega
  have h2 : r.val / 128 % 16 = k.val := by omega
  have h3 : r.val % 128 = p.val := by omega
  rw [affine_eq _ _ _ (by omega)]
  refine Finset.sum_congr rfl fun j _ => ?_
  have e1 : (⟨r.val / 2048, by omega⟩ : Fin 2) = c := Fin.ext h1
  have e2 : (⟨r.val / 128 % 16, by omega⟩ : Fin 16) = k := Fin.ext h2
  have e3 : (⟨4 * (r.val % 128) + j.val, by omega⟩ : Fin 512) = ⟨4 * p.val + j.val, by omega⟩ := Fin.ext (by show 4 * (r.val % 128) + j.val = _; rw [h3])
  rw [e1, e2, e3]
  rfl

/-- The block's sum of squares over its norm is the probability of the state. -/
theorem prob_column (b : Fin 4096) (k : Fin 16) (p : Fin 125) (n : Fin 2048) (hn : n.val = k.val * 128 + p.val) :
    square (weight (parts w)) (offset (parts w)) (column x b) n * (1 / blockNorm within (column x b) ⟨n.val % 128, by omega⟩) = prob x w b p k := by
  have e : (⟨n.val % 128, by omega⟩ : Fin 128) = ⟨p.val, by omega⟩ := Fin.ext (by show n.val % 128 = p.val; omega)
  have h0 : n.val = (0 : Fin 2).val * 2048 + (k.val * 128 + p.val) := by
    rw [Fin.val_zero, Nat.zero_mul, Nat.zero_add]
    exact hn
  have h1 : 2048 + n.val = (1 : Fin 2).val * 2048 + (k.val * 128 + p.val) := by
    rw [Fin.val_one, Nat.one_mul, hn]
  have a0 := affine_column x w b 0 k p ⟨n.val, by omega⟩ h0
  have a1 := affine_column x w b 1 k p ⟨2048 + n.val, by omega⟩ h1
  rw [e, norm_column, square, a0, a1, prob]
  rfl

/-- A sum over the 128 patches of which the last three are zero is the sum over the first 125. -/
theorem sum_patches (f : Fin 128 → ℝ) (h : ∀ p : Fin 128, ¬ p.val < 125 → f p = 0) : ∑ p, f p = ∑ p : Fin 125, f ⟨p.val, by omega⟩ := by
  have e : ∑ p, f p = ∑ p : Fin (125 + 3), f p := rfl
  rw [e, Fin.sum_univ_add, Finset.sum_eq_zero (s := Finset.univ) (f := fun i : Fin 3 => f (Fin.natAdd 125 i)), add_zero]
  · rfl
  · intro i _
    exact h _ (by show ¬ 125 + i.val < 125; omega)

/-- The block's sum is the head. -/
theorem head_column (b : Fin 4096) (t : Fin 96) :
    ∑ n : Fin 2048, signed (fun t r => hw (ix2 t r)) sgn t ⟨n.val / 128, by omega⟩ ⟨n.val % 128, by omega⟩ *
      (square (weight (parts w)) (offset (parts w)) (column x b) n * (1 / blockNorm within (column x b) ⟨n.val % 128, by omega⟩)) = head x w hw b t := by
  have h1 := Fin.sum_divmod_fin (N := 2048) (A := 16) 128 (fun k p => signed (fun t r => hw (ix2 t r)) sgn t k p *
    (square (weight (parts w)) (offset (parts w)) (column x b) ⟨k.val * 128 + p.val, by omega⟩ * (1 / blockNorm within (column x b) p)))
  have h2 : ∀ k : Fin 16, (∑ p : Fin 128, signed (fun t r => hw (ix2 t r)) sgn t k p *
      (square (weight (parts w)) (offset (parts w)) (column x b) ⟨k.val * 128 + p.val, by omega⟩ * (1 / blockNorm within (column x b) p))) =
      ∑ p : Fin 125, ∑ q : Fin 4, prob x w b p k * sgn k q * hw (ix2 t ⟨p.val * 4 + q.val, by omega⟩) := by
    intro k
    rw [sum_patches]
    · refine Finset.sum_congr rfl fun p _ => ?_
      have hk := prob_column x w b k p ⟨k.val * 128 + p.val, by omega⟩ rfl
      have e : (⟨(k.val * 128 + p.val) % 128, by omega⟩ : Fin 128) = ⟨p.val, by omega⟩ := Fin.ext (by show (k.val * 128 + p.val) % 128 = p.val; omega)
      rw [e] at hk
      rw [hk, signed, dif_pos p.isLt, Finset.sum_mul]
      exact Finset.sum_congr rfl fun q _ => by ring
    · intro p hp
      rw [signed, dif_neg hp, zero_mul]
  have h3 : head x w hw b t = ∑ p : Fin 125, ∑ q : Fin 4, expect x w b p q * hw (ix2 t ⟨p.val * 4 + q.val, by omega⟩) := by
    refine Fin.sum_divmod_congr fun r ha hs => ?_
    have e : (⟨r.val / 4 * 4 + r.val % 4, by omega⟩ : Fin 500) = r := Fin.ext (by show r.val / 4 * 4 + r.val % 4 = r.val; omega)
    show _ = _ * hw (ix2 t ⟨r.val / 4 * 4 + r.val % 4, _⟩)
    rw [e]
  have h4 : ∀ n : Fin 2048, (⟨n.val / 128 * 128 + n.val % 128, by omega⟩ : Fin 2048) = n := fun n => Fin.ext (by show n.val / 128 * 128 + n.val % 128 = n.val; omega)
  simp only [h4] at h1
  rw [h1, h3, Finset.sum_congr rfl fun k _ => h2 k, Finset.sum_comm]
  refine Finset.sum_congr rfl fun p _ => ?_
  rw [Finset.sum_comm]
  refine Finset.sum_congr rfl fun q _ => ?_
  rw [expect, Finset.sum_mul]

end Head

end Cert.Circuit
-- ==== Proof.Prefix.lean ====
/-
  What the kernel's host program leaves, before the grid, in the arrays the grid reads.
-/
module

public import Idealize.ShloMosaic.Lib.StableHlo.ReadAt
public import Idealize.ShloMosaic.Lib.Pipeline.Frame
public import proofs.«01_k».proof.Proof.Arrays
public import proofs.«01_k».proof.Proof.Gen.KernelIdeal.Launch
public import proofs.«01_k».proof.Proof.Gen.ReferenceIdeal.Read

@[expose] public section

set_option maxRecDepth 16384

noncomputable section

namespace Cert.Circuit

open Idealize.ShloMosaic Idealize.ShloMosaic.TcCoe Idealize.SL.Sem
open Cert.KernelIdeal Cert.KernelIdeal.Gen
open Cert.ReferenceIdeal.Read (val_main_v55 val_main_v56 val_main_v57 val_main_v58 val_main_v59 val_main_v60 val_main_v61 val_main_v62 val_main_v63
  val_main_v75 val_main_v76 val_main_v77 val_main_v78 val_main_v79 val_main_v80 val_main_v81 val_main_v82 val_main_v83)

/-- The buffers of the kernel's program. -/
abbrev Bufs := Valuation τ sig (Elt Ideal)

/-- The operations up to the gates. -/
def opsGates : List (HloOp τ sig (Elt Ideal)) := (hostOps0 (F := Ideal)).take 68
/-- The operations that multiply the gates of qubits 0 and 1. -/
def opsPair : List (HloOp τ sig (Elt Ideal)) := ((hostOps0 (F := Ideal)).drop 68).take 26
/-- The operations that multiply the gates of qubit 2 in. -/
def opsTriple : List (HloOp τ sig (Elt Ideal)) := ((hostOps0 (F := Ideal)).drop 94).take 20
/-- The operations that multiply the gates of qubit 3 in. -/
def opsFour : List (HloOp τ sig (Elt Ideal)) := ((hostOps0 (F := Ideal)).drop 114).take 22
/-- The operations that permute the rows. -/
def opsPermute : List (HloOp τ sig (Elt Ideal)) := ((hostOps0 (F := Ideal)).drop 136).take 32
/-- The operations that multiply the two layers. -/
def opsCircuit : List (HloOp τ sig (Elt Ideal)) := ((hostOps0 (F := Ideal)).drop 168).take 9
/-- The operations after the circuit. -/
def opsRest : List (HloOp τ sig (Elt Ideal)) := ((hostOps0 (F := Ideal)).drop 177) ++ (hostOps0_1 ++ (hostOps0_2 ++ (hostOps0_3 ++ (hostOps0_4 ++ (hostOps0_5 ++ hostOps0_6)))))

variable (V : Bufs)

/-- The real parts of the gates are the reference's. -/
theorem read_gates_re : StableHlo.after opsGates V (no_index (Proc.devRef .tc main_v46)) = val_main_v63 (F := Ideal) (V (Proc.devRef .tc main_arg1)) := by
  after_reads_simp
  refine congrArg₂ (fun a b => concatenate S2x4x2x2 2 [⟨S2x4x1x2, a⟩, ⟨S2x4x1x2, b⟩] concatenates_S2x4x1x2_S2x4x1x2_S2x4x2x2_d2)
    (?_ : _ = val_main_v61 (F := Ideal) (V (Proc.devRef .tc main_arg1))) (?_ : _ = val_main_v62 (F := Ideal) (V (Proc.devRef .tc main_arg1)))
  · after_reads_simp
    refine congrArg (broadcastInDim S2x4x1x2 ![0, 1, 3] bcast_S2x4x2_S2x4x1x2_0_1_3)
      (congrArg₂ (fun a b => concatenate S2x4x2 2 [⟨S2x4x1, a⟩, ⟨S2x4x1, b⟩] concatenates_S2x4x1_S2x4x1_S2x4x2_d2)
        (?_ : _ = val_main_v55 (F := Ideal) (V (Proc.devRef .tc main_arg1))) (?_ : _ = val_main_v56 (F := Ideal) (V (Proc.devRef .tc main_arg1))))
    all_goals (after_reads_simp; rfl)
  · after_reads_simp
    refine congrArg (broadcastInDim S2x4x1x2 ![0, 1, 3] bcast_S2x4x2_S2x4x1x2_0_1_3)
      (congrArg₂ (fun a b => concatenate S2x4x2 2 [⟨S2x4x1, a⟩, ⟨S2x4x1, b⟩] concatenates_S2x4x1_S2x4x1_S2x4x2_d2)
        (?_ : _ = val_main_v58 (F := Ideal) (V (Proc.devRef .tc main_arg1))) (?_ : _ = val_main_v59 (F := Ideal) (V (Proc.devRef .tc main_arg1))))
    all_goals (after_reads_simp; rfl)

/-- The imaginary parts of the gates are the reference's. -/
theorem read_gates_im : StableHlo.after opsGates V (no_index (Proc.devRef .tc main_v55)) = val_main_v83 (F := Ideal) (V (Proc.devRef .tc main_arg1)) := by
  after_reads_simp
  refine congrArg₂ (fun a b => concatenate S2x4x2x2 2 [⟨S2x4x1x2, a⟩, ⟨S2x4x1x2, b⟩] concatenates_S2x4x1x2_S2x4x1x2_S2x4x2x2_d2)
    (?_ : _ = val_main_v81 (F := Ideal) (V (Proc.devRef .tc main_arg1))) (?_ : _ = val_main_v82 (F := Ideal) (V (Proc.devRef .tc main_arg1)))
  · after_reads_simp
    refine congrArg (broadcastInDim S2x4x1x2 ![0, 1, 3] bcast_S2x4x2_S2x4x1x2_0_1_3)
      (congrArg₂ (fun a b => concatenate S2x4x2 2 [⟨S2x4x1, a⟩, ⟨S2x4x1, b⟩] concatenates_S2x4x1_S2x4x1_S2x4x2_d2)
        (?_ : _ = val_main_v75 (F := Ideal) (V (Proc.devRef .tc main_arg1))) (?_ : _ = val_main_v76 (F := Ideal) (V (Proc.devRef .tc main_arg1))))
    all_goals (after_reads_simp; rfl)
  · after_reads_simp
    refine congrArg (broadcastInDim S2x4x1x2 ![0, 1, 3] bcast_S2x4x2_S2x4x1x2_0_1_3)
      (congrArg₂ (fun a b => concatenate S2x4x2 2 [⟨S2x4x1, a⟩, ⟨S2x4x1, b⟩] concatenates_S2x4x1_S2x4x1_S2x4x2_d2)
        (?_ : _ = val_main_v78 (F := Ideal) (V (Proc.devRef .tc main_arg1))) (?_ : _ = val_main_v79 (F := Ideal) (V (Proc.devRef .tc main_arg1))))
    all_goals (after_reads_simp; rfl)

/-- The real part of the pair. -/
theorem read_pair_re : StableHlo.after opsPair V (no_index (Proc.devRef .tc main_v74)) = pairRe (V (Proc.devRef .tc main_v46)) (V (Proc.devRef .tc main_v55)) := by
  after_reads_simp
  rfl

/-- The imaginary part of the pair. -/
theorem read_pair_im : StableHlo.after opsPair V (no_index (Proc.devRef .tc main_v81)) = pairIm (V (Proc.devRef .tc main_v46)) (V (Proc.devRef .tc main_v55)) := by
  after_reads_simp
  rfl

/-- The real part of the triple. -/
theorem read_triple_re : StableHlo.after opsTriple V (no_index (Proc.devRef .tc main_v94)) = tripleRe (V (Proc.devRef .tc main_v74)) (V (Proc.devRef .tc main_v81)) (V (Proc.devRef .tc main_v46)) (V (Proc.devRef .tc main_v55)) := by
  after_reads_simp
  rfl

/-- The imaginary part of the triple. -/
theorem read_triple_im : StableHlo.after opsTriple V (no_index (Proc.devRef .tc main_v101)) = tripleIm (V (Proc.devRef .tc main_v74)) (V (Proc.devRef .tc main_v81)) (V (Proc.devRef .tc main_v46)) (V (Proc.devRef .tc main_v55)) := by
  after_reads_simp
  rfl

/-- The real part of the product of the four gates. -/
theorem read_four_re : StableHlo.after opsFour V (no_index (Proc.devRef .tc main_v122)) = fourRe (V (Proc.devRef .tc main_v94)) (V (Proc.devRef .tc main_v101)) (V (Proc.devRef .tc main_v46)) (V (Proc.devRef .tc main_v55)) := by
  after_reads_simp
  rfl

/-- The imaginary part of the product of the four gates. -/
theorem read_four_im : StableHlo.after opsFour V (no_index (Proc.devRef .tc main_v123)) = fourIm (V (Proc.devRef .tc main_v94)) (V (Proc.devRef .tc main_v101)) (V (Proc.devRef .tc main_v46)) (V (Proc.devRef .tc main_v55)) := by
  after_reads_simp
  rfl

/-- The real part of the first layer, permuted. -/
theorem read_rows0_re : StableHlo.after opsPermute V (no_index (Proc.devRef .tc main_v130)) = rows0 (V (Proc.devRef .tc main_v122)) (V (Proc.devRef .tc main_c_0)) (V (Proc.devRef .tc main_c)) := by
  after_reads_simp
  rfl

/-- The imaginary part of the first layer, permuted. -/
theorem read_rows0_im : StableHlo.after opsPermute V (no_index (Proc.devRef .tc main_v137)) = rows0 (V (Proc.devRef .tc main_v123)) (V (Proc.devRef .tc main_c_1)) (V (Proc.devRef .tc main_c)) := by
  after_reads_simp
  rfl

/-- The real part of the second layer, permuted. -/
theorem read_rows1_re : StableHlo.after opsPermute V (no_index (Proc.devRef .tc main_v144)) = rows1 (V (Proc.devRef .tc main_v122)) (V (Proc.devRef .tc main_c_3)) (V (Proc.devRef .tc main_c_2)) := by
  after_reads_simp
  rfl

/-- The imaginary part of the second layer, permuted. -/
theorem read_rows1_im : StableHlo.after opsPermute V (no_index (Proc.devRef .tc main_v151)) = rows1 (V (Proc.devRef .tc main_v123)) (V (Proc.devRef .tc main_c_4)) (V (Proc.devRef .tc main_c_2)) := by
  after_reads_simp
  rfl

/-- The two parts of the circuit. -/
theorem read_circuit : StableHlo.after opsCircuit V (no_index (Proc.devRef .tc main_v160)) = stack (leaf (circuitRe (V (Proc.devRef .tc main_v144)) (V (Proc.devRef .tc main_v151)) (V (Proc.devRef .tc main_v130)) (V (Proc.devRef .tc main_v137)))) (leaf (circuitIm (V (Proc.devRef .tc main_v144)) (V (Proc.devRef .tc main_v151)) (V (Proc.devRef .tc main_v130)) (V (Proc.devRef .tc main_v137)))) := by
  after_reads_simp
  refine congrArg₂ stack (?_ : _ = leaf (circuitRe (V (Proc.devRef .tc main_v144)) (V (Proc.devRef .tc main_v151)) (V (Proc.devRef .tc main_v130)) (V (Proc.devRef .tc main_v137)))) (?_ : _ = leaf (circuitIm (V (Proc.devRef .tc main_v144)) (V (Proc.devRef .tc main_v151)) (V (Proc.devRef .tc main_v130)) (V (Proc.devRef .tc main_v137))))
  all_goals (after_reads_simp; rfl)

/-- The rounded circuit over the patches. -/
theorem read_weight_upper : StableHlo.after opsRest V (no_index (Proc.devRef .tc main_v187)) = weightOf (upper (V (Proc.devRef .tc main_v160))) := by
  after_reads_simp
  rfl

/-- What the rounding left, over the patches. -/
theorem read_weight_lower : StableHlo.after opsRest V (no_index (Proc.devRef .tc main_v210)) = weightOf (lower (V (Proc.devRef .tc main_v160))) := by
  after_reads_simp
  rfl

/-- The offsets. -/
theorem read_offset : StableHlo.after opsRest V (no_index (Proc.devRef .tc main_v216)) = offsetOf (V (Proc.devRef .tc main_v160)) := by
  after_reads_simp
  rfl

/-- The rounded head. -/
theorem read_head_upper : StableHlo.after opsRest V (no_index (Proc.devRef .tc main_v227)) = headUpper (headOf (V (Proc.devRef .tc main_arg2)) (V (Proc.devRef .tc main_cst))) := by
  after_reads_simp
  rfl

/-- What the rounding of the head left. -/
theorem read_head_lower : StableHlo.after opsRest V (no_index (Proc.devRef .tc main_v230)) = headLower (headOf (V (Proc.devRef .tc main_arg2)) (V (Proc.devRef .tc main_cst))) := by
  after_reads_simp
  rfl

/-- The bias. -/
theorem read_bias : StableHlo.after opsRest V (no_index (Proc.devRef .tc main_v226)) = biasOf (V (Proc.devRef .tc main_arg3)) := by
  after_reads_simp
  rfl

end Cert.Circuit
-- ==== Proof.Host.lean ====
/-
  What the arrays of the kernel's grid hold when the grid begins, as functions of the arguments.
-/
module

public import proofs.«01_k».proof.Proof.Prefix
public import proofs.«01_k».proof.Proof.Gen.KernelIdeal.Frame

@[expose] public section

set_option maxRecDepth 16384

noncomputable section

namespace Cert.Circuit

open Idealize.ShloMosaic Idealize.ShloMosaic.TcCoe Idealize.SL.Sem
open Cert.KernelIdeal Cert.KernelIdeal.Gen
open Cert.ReferenceIdeal.Read (val_main_v63 val_main_v83)

/-- The row numbers of the first layer's flips. -/
def tab0 : IVec S16 32 := fun i => lit0 (S16.rowMajor i)
/-- The row numbers of the second layer's flips. -/
def tab1 : IVec S16 32 := fun i => lit1 (S16.rowMajor i)
/-- The signs of the four qubits in each state. -/
def signs : FVec Ideal S16x4 .f32 := fun i => FloatOps.ofBits .f32 (lit2 (S16x4.rowMajor i))
/-- Which elements of a column lie in which patch. -/
def patches : FVec Ideal S128x512 .bf16 := fun i => FloatOps.ofBits .bf16 (lit3 (S128x512.rowMajor i))
/-- No row number is negative. -/
def noMask : IVec S16 1 := constantI S16 1 0#1
/-- The circuit of the given weights. -/
def circuitArr (w : FVec Ideal S2x4x3 .f32) : FVec Ideal S2x16x16 .f32 :=
  circuitOf (val_main_v63 (F := Ideal) w) (val_main_v83 (F := Ideal) w) noMask noMask noMask noMask tab0 tab1

/-- The buffers once the circuit is formed. -/
def atCircuit (V : Bufs) : Bufs :=
  StableHlo.after opsCircuit (StableHlo.after opsPermute (StableHlo.after opsFour (StableHlo.after opsTriple (StableHlo.after opsPair (StableHlo.after opsGates V)))))

/-- The operations before the grid are the ones up to the circuit, then the rest. -/
theorem before_grid (V : Bufs) : StableHlo.after (List.flatten [hostOps0 (F := Ideal), hostOps0_1, hostOps0_2, hostOps0_3, hostOps0_4, hostOps0_5, hostOps0_6]) V =
    StableHlo.after opsRest (atCircuit V) := by
  have h : List.flatten [hostOps0 (F := Ideal), hostOps0_1, hostOps0_2, hostOps0_3, hostOps0_4, hostOps0_5, hostOps0_6] =
      opsGates ++ (opsPair ++ (opsTriple ++ (opsFour ++ (opsPermute ++ (opsCircuit ++ opsRest))))) := rfl
  rw [h]
  simp only [StableHlo.after_append, atCircuit]

/-- The circuit, once formed, is the circuit of the weights. -/
theorem circuit_array (V : Bufs) : atCircuit V (Proc.devRef .tc main_v160) = circuitArr (V (Proc.devRef .tc main_arg1)) := by
  have hR := read_gates_re V
  have hI := read_gates_im V
  have h0 : StableHlo.after opsGates V (Proc.devRef .tc main_c_0) = noMask := by after_reads_simp; rfl
  have h1 : StableHlo.after opsGates V (Proc.devRef .tc main_c_1) = noMask := by after_reads_simp; rfl
  have h3 : StableHlo.after opsGates V (Proc.devRef .tc main_c_3) = noMask := by after_reads_simp; rfl
  have h4 : StableHlo.after opsGates V (Proc.devRef .tc main_c_4) = noMask := by after_reads_simp; rfl
  have h : StableHlo.after opsGates V (Proc.devRef .tc main_c) = tab0 := by after_reads_simp; rfl
  have h2 : StableHlo.after opsGates V (Proc.devRef .tc main_c_2) = tab1 := by after_reads_simp; rfl
  unfold atCircuit
  generalize StableHlo.after opsGates V = V1 at *
  simp only [read_circuit, read_rows0_re, read_rows0_im, read_rows1_re, read_rows1_im, read_four_re, read_four_im, read_triple_re, read_triple_im,
    read_pair_re, read_pair_im]
  after_reads_simp
  rw [hR, hI, h0, h1, h2, h3, h4, h]
  rfl

/-- The arguments pass the circuit unchanged. -/
theorem args_at (V : Bufs) : atCircuit V (Proc.devRef .tc main_arg2) = V (Proc.devRef .tc main_arg2) ∧
    atCircuit V (Proc.devRef .tc main_arg3) = V (Proc.devRef .tc main_arg3) ∧
    atCircuit V (Proc.devRef .tc main_cst) = signs ∧ atCircuit V (Proc.devRef .tc main_cst_5) = patches := by
  unfold atCircuit
  refine ⟨?_, ?_, ?_, ?_⟩
  · after_reads_simp
  · after_reads_simp
  · after_reads_simp; rfl
  · after_reads_simp; rfl

section Grid

variable (m : (ℓ : Loc nD τ sig) → Buf (Elt Ideal) ℓ) (c : Dev nD)

/-- The first weights of the grid. -/
theorem grid_upper : Gen.V m c main_v187 = weightOf (upper (circuitArr (m (c, Proc.devRef .tc main_arg1)))) := by
  show StableHlo.after (List.flatten _) _ (Proc.devRef .tc main_v187) = _
  rw [before_grid]
  rw [read_weight_upper, circuit_array]

/-- The second weights of the grid. -/
theorem grid_lower : Gen.V m c main_v210 = weightOf (lower (circuitArr (m (c, Proc.devRef .tc main_arg1)))) := by
  show StableHlo.after (List.flatten _) _ (Proc.devRef .tc main_v210) = _
  rw [before_grid]
  rw [read_weight_lower, circuit_array]

/-- The offsets of the grid. -/
theorem grid_offset : Gen.V m c main_v216 = offsetOf (circuitArr (m (c, Proc.devRef .tc main_arg1))) := by
  show StableHlo.after (List.flatten _) _ (Proc.devRef .tc main_v216) = _
  rw [before_grid]
  rw [read_offset, circuit_array]

/-- The first head of the grid. -/
theorem grid_head_upper : Gen.V m c main_v227 = headUpper (headOf (m (c, Proc.devRef .tc main_arg2)) signs) := by
  show StableHlo.after (List.flatten _) _ (Proc.devRef .tc main_v227) = _
  rw [before_grid]
  rw [read_head_upper, (args_at _).1, (args_at _).2.2.1]

/-- The second head of the grid. -/
theorem grid_head_lower : Gen.V m c main_v230 = headLower (headOf (m (c, Proc.devRef .tc main_arg2)) signs) := by
  show StableHlo.after (List.flatten _) _ (Proc.devRef .tc main_v230) = _
  rw [before_grid]
  rw [read_head_lower, (args_at _).1, (args_at _).2.2.1]

/-- The bias of the grid. -/
theorem grid_bias : Gen.V m c main_v226 = biasOf (m (c, Proc.devRef .tc main_arg3)) := by
  show StableHlo.after (List.flatten _) _ (Proc.devRef .tc main_v226) = _
  rw [before_grid]
  rw [read_bias, (args_at _).2.1]

/-- The table of patches of the grid. -/
theorem grid_patches : Gen.V m c main_cst_5 = patches := by
  show StableHlo.after (List.flatten _) _ (Proc.devRef .tc main_cst_5) = _
  rw [before_grid]
  have h : StableHlo.after opsRest (atCircuit fun b => m (c, b)) (Proc.devRef .tc main_cst_5) = atCircuit (fun b => m (c, b)) (Proc.devRef .tc main_cst_5) := by after_reads_simp
  rw [h, (args_at _).2.2.2]

end Grid

end Cert.Circuit
-- ==== Proof.Member.lean ====
/-
  The constant table of the kernel: which elements of a column belong to which patch.
-/
module

public import proofs.«01_k».proof.Proof.Gen.KernelIdeal.Skeleton

@[expose] public section

set_option maxRecDepth 16384
set_option Elab.async false

noncomputable section

namespace Cert.Circuit

open Idealize.ShloMosaic Idealize.ShloMosaic.TcCoe Idealize.SL.Sem
open Cert.KernelIdeal

/-- The word of one where element `l` lies in patch `p`, and the word of zero elsewhere. -/
def member (p l : ℕ) : BitVec 16 := if p < 125 ∧ 4 * p ≤ l ∧ l < 4 * p + 16 then 0x3F80#16 else 0x0000#16

/-- Eight rows of the table, from row `a` on, are those of the patches. -/
abbrev RowsFrom (a : ℕ) : Prop := ∀ p : Fin 8, ∀ l : Fin 512, lit3t ((a + p.val) * 512 + l.val) = member (a + p.val) l.val

/-- A row between `a` and `a + 7`, from eight rows from `a` on. -/
theorem row_of {P : ℕ → ℕ → Prop} (a : ℕ) (h : ∀ p : Fin 8, ∀ l : Fin 512, P (a + p.val) l.val) (p : ℕ) (l : Fin 512) (hp : p / 8 * 8 = a) : P p l.val := by
  have e : a + (⟨p - a, by omega⟩ : Fin 8).val = p := by
    show a + (p - a) = p
    omega
  have := h ⟨p - a, by omega⟩ l
  rwa [e] at this

end Cert.Circuit
-- ==== Proof.TableLow.lean ====
/-
  The constant table of the kernel: which elements of a column belong to which patch.
-/
module

public import proofs.«01_k».proof.Proof.Member

@[expose] public section

set_option maxRecDepth 16384
set_option Elab.async false

noncomputable section

namespace Cert.Circuit

open Idealize.ShloMosaic Idealize.ShloMosaic.TcCoe Idealize.SL.Sem
open Cert.KernelIdeal

/-- Rows 0 to 7. -/
theorem rows_0 : RowsFrom 0 := by decide +kernel
/-- Rows 8 to 15. -/
theorem rows_8 : RowsFrom 8 := by decide +kernel
/-- Rows 16 to 23. -/
theorem rows_16 : RowsFrom 16 := by decide +kernel
/-- Rows 24 to 31. -/
theorem rows_24 : RowsFrom 24 := by decide +kernel
/-- Rows 32 to 39. -/
theorem rows_32 : RowsFrom 32 := by decide +kernel
/-- Rows 40 to 47. -/
theorem rows_40 : RowsFrom 40 := by decide +kernel
/-- Rows 48 to 55. -/
theorem rows_48 : RowsFrom 48 := by decide +kernel
/-- Rows 56 to 63. -/
theorem rows_56 : RowsFrom 56 := by decide +kernel

end Cert.Circuit
-- ==== Proof.TableHigh.lean ====
/-
  The constant table of the kernel: which elements of a column belong to which patch.
-/
module

public import proofs.«01_k».proof.Proof.Member

@[expose] public section

set_option maxRecDepth 16384
set_option Elab.async false

noncomputable section

namespace Cert.Circuit

open Idealize.ShloMosaic Idealize.ShloMosaic.TcCoe Idealize.SL.Sem
open Cert.KernelIdeal

/-- Rows 64 to 71. -/
theorem rows_64 : RowsFrom 64 := by decide +kernel
/-- Rows 72 to 79. -/
theorem rows_72 : RowsFrom 72 := by decide +kernel
/-- Rows 80 to 87. -/
theorem rows_80 : RowsFrom 80 := by decide +kernel
/-- Rows 88 to 95. -/
theorem rows_88 : RowsFrom 88 := by decide +kernel
/-- Rows 96 to 103. -/
theorem rows_96 : RowsFrom 96 := by decide +kernel
/-- Rows 104 to 111. -/
theorem rows_104 : RowsFrom 104 := by decide +kernel
/-- Rows 112 to 119. -/
theorem rows_112 : RowsFrom 112 := by decide +kernel
/-- Rows 120 to 127. -/
theorem rows_120 : RowsFrom 120 := by decide +kernel

end Cert.Circuit
-- ==== Proof.Table.lean ====
/-
  The constant table of the kernel: which elements of a column belong to which patch.
-/
module

public import proofs.«01_k».proof.Proof.TableLow
public import proofs.«01_k».proof.Proof.TableHigh

@[expose] public section

set_option maxRecDepth 16384
set_option Elab.async false

noncomputable section

namespace Cert.Circuit

open Idealize.ShloMosaic Idealize.ShloMosaic.TcCoe Idealize.SL.Sem
open Cert.KernelIdeal

/-- The table of patches holds the word of one where element `l` lies in patch `p`, and zero elsewhere. -/
theorem patch_table (p : Fin 128) (l : Fin 512) : lit3t (p.val * 512 + l.val) = member p.val l.val := by
  have row := fun a h => row_of (P := fun p l => lit3t (p * 512 + l) = member p l) a h p.val l
  have hp : p.val / 8 * 8 = 0 ∨ p.val / 8 * 8 = 8 ∨ p.val / 8 * 8 = 16 ∨ p.val / 8 * 8 = 24 ∨ p.val / 8 * 8 = 32 ∨ p.val / 8 * 8 = 40 ∨ p.val / 8 * 8 = 48 ∨ p.val / 8 * 8 = 56 ∨ p.val / 8 * 8 = 64 ∨ p.val / 8 * 8 = 72 ∨ p.val / 8 * 8 = 80 ∨ p.val / 8 * 8 = 88 ∨ p.val / 8 * 8 = 96 ∨ p.val / 8 * 8 = 104 ∨ p.val / 8 * 8 = 112 ∨ p.val / 8 * 8 = 120 := by omega
  rcases hp with h | h | h | h | h | h | h | h | h | h | h | h | h | h | h | h
  · exact row 0 rows_0 h
  · exact row 8 rows_8 h
  · exact row 16 rows_16 h
  · exact row 24 rows_24 h
  · exact row 32 rows_32 h
  · exact row 40 rows_40 h
  · exact row 48 rows_48 h
  · exact row 56 rows_56 h
  · exact row 64 rows_64 h
  · exact row 72 rows_72 h
  · exact row 80 rows_80 h
  · exact row 88 rows_88 h
  · exact row 96 rows_96 h
  · exact row 104 rows_104 h
  · exact row 112 rows_112 h
  · exact row 120 rows_120 h

end Cert.Circuit
-- ==== Proof.Signs.lean ====
/-
  The constant arrays of the kernel, at an index.
-/
module

public import proofs.«01_k».proof.Proof.Host
public import proofs.«01_k».proof.Proof.Layers
public import proofs.«01_k».proof.Proof.RefValue
public import proofs.«01_k».proof.Proof.Table

@[expose] public section

set_option maxRecDepth 16384

noncomputable section

namespace Cert.Circuit

open Idealize.ShloMosaic Idealize.ShloMosaic.TcCoe Idealize.SL.Sem
open Cert.KernelIdeal Cert.KernelIdeal.Gen

/-- The first layer's table of row numbers. -/
theorem tab0_apply : ∀ k : Fin 16, tab0 (ix1 k) = BitVec.ofNat 32 (perm0 k).val := by decide +kernel

/-- The second layer's table of row numbers. -/
theorem tab1_apply : ∀ k : Fin 16, tab1 (ix1 k) = BitVec.ofNat 32 (perm1 k).val := by decide +kernel

/-- The words of the signs. -/
theorem sign_words : ∀ (k : Fin 16) (q : Fin 4), lit2 (S16x4.rowMajor (ix2 k q)) = if k.val / 2 ^ (3 - q.val) % 2 = 0 then 0x3F800000#32 else 0xBF800000#32 := by
  decide +kernel

/-- The word of 1. -/
theorem word_plus : Ideal.ofBits .f32 0x3F800000#32 = ((1 : ℝ) : EReal) := by
  simp [Ideal.ofBits, Ideal.ieee, -EReal.coe_mul]; norm_num

/-- The word of -1. -/
theorem word_minus : Ideal.ofBits .f32 0xBF800000#32 = ((-1 : ℝ) : EReal) := by
  simp [Ideal.ofBits, Ideal.ieee, -EReal.coe_mul]; norm_num

/-- The table of signs is the sign of each state for each wire. -/
theorem signs_apply (k : Fin 16) (q : Fin 4) : signs (ix2 k q) = (sgn k q : EReal) := by
  show Ideal.ofBits .f32 (lit2 (S16x4.rowMajor (ix2 k q))) = _
  rw [sign_words]
  by_cases h : k.val / 2 ^ (3 - q.val) % 2 = 0
  · rw [if_pos h, word_plus, sgn, h]; norm_num
  · have h' : k.val / 2 ^ (3 - q.val) % 2 = 1 := by omega
    rw [if_neg h, word_minus, sgn, h']; norm_num

/-- The table of patches is one where an element lies in a patch. -/
theorem patches_apply (p : Fin 128) (l : Fin 512) :
    patches (ix2 p l) = ((if p.val < 125 ∧ 4 * p.val ≤ l.val ∧ l.val < 4 * p.val + 16 then 1 else 0 : ℝ) : EReal) := by
  have h : lit3 (S128x512.rowMajor (ix2 p l)) = lit3t (p.val * 512 + l.val) := by
    have hv : (S128x512.rowMajor (ix2 p l)).val = p.val * 512 + l.val := by
      rw [Shape.rowMajor_val_two]
      rfl
    show lit3t (S128x512.rowMajor (ix2 p l)).val = _
    rw [hv]
  show Ideal.ofBits .bf16 (lit3 (S128x512.rowMajor (ix2 p l))) = _
  rw [h, patch_table, member]
  by_cases h : p.val < 125 ∧ 4 * p.val ≤ l.val ∧ l.val < 4 * p.val + 16
  · rw [if_pos h, if_pos h, word_bf_one]
  · rw [if_neg h, if_neg h, word_bf_zero]

end Cert.Circuit
-- ==== Proof.Final.lean ====
/-
  The kernel's run: the result holds the head of every row plus the bias.
-/
module

public import proofs.«01_k».proof.Proof.Grid
public import proofs.«01_k».proof.Proof.Suffix
public import proofs.«01_k».proof.Proof.Sums
public import proofs.«01_k».proof.Proof.Signs

@[expose] public section

set_option maxRecDepth 16384

noncomputable section

namespace Cert.Circuit

open Idealize.ShloMosaic Idealize.ShloMosaic.TcCoe Idealize.SL.Sem
open Idealize.ShloMosaic.Pipeline (Dat)
open Cert.KernelIdeal Cert.KernelIdeal.Gen

/-- The kernel's circuit of real weights, read at an index. -/
theorem circuitArr_apply (w : S2x4x3.Idx → ℝ) (c : Fin 2) (i j : Fin 16) : circuitArr (up w) (ix3 c i j) = (parts w c i j : EReal) :=
  circuitOf_apply (g := gate w) (fun l q a b => gateRe_eq w l q a b) (fun l q a b => gateIm_eq w l q a b)
    (fun _ => rfl) (fun _ => rfl) (fun _ => rfl) (fun _ => rfl) tab0_apply tab1_apply c i j

section Point

variable (m : (ℓ : Loc nD τ sig) → Buf (Elt Ideal) ℓ) (c : Dev nD)
variable (x : S64x512x64.Idx → ℝ) (w : S2x4x3.Idx → ℝ) (hw : S96x500.Idx → ℝ)

/-- The samples side by side at a point of the grid are the columns of the rows there. -/
theorem columns_at (h0 : m (c, Proc.devRef .tc main_arg0) = up x) (t : Fin cfg0.N) (l : Fin 512) (s : Fin 256) :
    k0_pay2 (F := Ideal) (View.ld (iblk m c 0 t) r0_0) (View.ld (iblk m c 0 t) r0_1) (View.ld (iblk m c 0 t) r0_2) (View.ld (iblk m c 0 t) r0_3) (ix2 l s)
      = (column x (columnOf t s) l : EReal) := by
  refine (columns_apply (iblk m c 0 t) l s).trans ?_
  rw [block_x, V_main_arg0]
  refine (congrFun h0 _).trans ?_
  have e1 : sampleOf t ⟨s.val / 64, by omega⟩ = ⟨(columnOf t s).val / 64, by omega⟩ := Fin.ext (by show 4 * t.val + s.val / 64 = (256 * t.val + s.val) / 64; omega)
  have e2 : (⟨s.val % 64, by omega⟩ : Fin 64) = ⟨(columnOf t s).val % 64, by omega⟩ := Fin.ext (by show s.val % 64 = (256 * t.val + s.val) % 64; omega)
  rw [e1, e2]
  rfl

/-- What the body leaves at a point: the head of the rows there, plus the bias. -/
theorem result_apply (h0 : m (c, Proc.devRef .tc main_arg0) = up x) (h1 : m (c, Proc.devRef .tc main_arg1) = up w)
    (h2 : m (c, Proc.devRef .tc main_arg2) = up hw) (hx : ∀ b p, 0 < normSq x b p) (t : Fin cfg0.N) (i : Fin 96) (s : Fin 256) :
    result m c t (ix2 i s) = (head x w hw (columnOf t s) i : EReal) + m (c, Proc.devRef .tc main_arg3) (ix1 i) := by
  have hX := columns_at m c x h0 t
  have hW : ∀ r l, iblk m c 1 t (ix2 r l) = (weight (parts w) r l : EReal) := fun r l => by
    rw [block_upper, grid_upper, h1]
    exact weightOf_apply (upper_apply (circuitArr_apply w)) r l
  have hl : ∀ r l, iblk m c 2 t (ix2 r l) = (0 : EReal) := fun r l => by
    rw [block_lower, grid_lower, h1]
    refine (weightOf_apply (lower_apply (circuitArr_apply w)) r l).trans ?_
    rw [weight_zero, EReal.coe_zero]
  have ho : ∀ r, iblk m c 6 t (ix2 r 0) = (offset (parts w) r : EReal) := fun r => by
    rw [block_offset, grid_offset, h1]
    exact offsetOf_apply (circuitArr_apply w) r
  have hN : ∀ p l, iblk m c 3 t (ix2 p l) = (within p l : EReal) := fun p l => by
    rw [block_patches, grid_patches]
    exact patches_apply p l
  have hh := headOf_apply (hw := up hw) (h := fun t r => hw (ix2 t r)) (fun t r => rfl) signs_apply
  have hH : ∀ i n, iblk m c 4 t (ix2 i n) = (signed (fun t r => hw (ix2 t r)) sgn i ⟨n.val / 128, by omega⟩ ⟨n.val % 128, by omega⟩ : EReal) := fun i n => by
    rw [block_head_upper, grid_head_upper, h2]
    exact headUpper_apply hh i n
  have hL : ∀ i n, iblk m c 5 t (ix2 i n) = (0 : EReal) := fun i n => by
    rw [block_head_lower, grid_head_lower, h2]
    exact headLower_apply hh i n
  have hb : iblk m c 7 t (ix2 i 0) = m (c, Proc.devRef .tc main_arg3) (ix1 i) := by
    rw [block_bias, grid_bias]
    exact biasOf_apply _ i
  refine (pay1_apply (X := fun l s => column x (columnOf t s) l) (sq := fun k s => square (weight (parts w)) (offset (parts w)) (column x (columnOf t s)) k)
    (pay3_apply hX hW hl ho) (pay4_apply hX) hN hH hL s (norm_ne x hx (columnOf t s)) i).trans ?_
  rw [hb, ← head_column]

/-- The array of heads plus bias, one column for each row. -/
def heads (b : FVec Ideal S96 .f32) : FVec Ideal S96x4096 .f32 := fun i => (head x w hw (i 1) (i 0) : EReal) + b (ix1 (i 0))

/-- The array the grid leaves. -/
theorem grid_result (h0 : m (c, Proc.devRef .tc main_arg0) = up x) (h1 : m (c, Proc.devRef .tc main_arg1) = up w)
    (h2 : m (c, Proc.devRef .tc main_arg2) = up hw) (hx : ∀ b p, 0 < normSq x b p) :
    (dats m 0 c).arrAt 8 cfg0.N = heads x w hw (m (c, Proc.devRef .tc main_arg3)) :=
  final_array m c _ fun t i s => result_apply m c x w hw h0 h1 h2 hx t i s

/-- The arrangement of what the grid left is the reference's result. -/
theorem kernel_value (h0 : m (c, Proc.devRef .tc main_arg0) = up x) (h1 : m (c, Proc.devRef .tc main_arg1) = up w)
    (h2 : m (c, Proc.devRef .tc main_arg2) = up hw) (hx : ∀ b p, 0 < normSq x b p) :
    arranged ((dats m 0 c).arrAt 8 cfg0.N) = Cert.ReferenceIdeal.Read.val_main_v313 (F := Ideal) (up x) (up w) (up hw) (m (c, Proc.devRef .tc main_arg3)) := by
  funext i
  obtain ⟨B, t, j, rfl⟩ : ∃ B t j, i = ix3 B t j := ⟨i 0, i 1, i 2, eq_ix3 i⟩
  rw [arranged_apply, grid_result m c x w hw h0 h1 h2 hx]
  exact (v313_apply x w hw _ hx B t j).symm

end Point

end Cert.Circuit
-- ==== Proof.Pre.lean ====
/-
  What the precondition says: the arrays are of real numbers, and no patch has squared norm zero.
-/
module

public import proofs.«01_k».proof.Pre_finite_nonzero_patches
public import proofs.«01_k».proof.Proof.Patches

@[expose] public section

set_option maxRecDepth 16384

noncomputable section

namespace Cert.Circuit

open Idealize.ShloMosaic Idealize.ShloMosaic.TcCoe Idealize.SL.Sem
open Cert.ReferenceIdeal Cert.ReferenceIdeal.Read

/-- The side conditions of the precondition's operations. -/
theorem pre_facts : Cert.Pre_finite_nonzero_patches.Facts := by
  constructor <;> decide +kernel

variable [Cert.Pre_finite_nonzero_patches.Facts]
variable (X : FVec Ideal S64x512x64 .f32) (W : FVec Ideal S2x4x3 .f32) (H : FVec Ideal S96x500 .f32) (B : FVec Ideal S96 .f32)

/-- The first word of the precondition: the sample is below infinity in absolute value. -/
theorem pre_samples (i : S64x512x64.Idx) : (Cert.Pre_finite_nonzero_patches.fn (F := Ideal) X W H B).1 i =
    FloatOps.cmpf CmpFPredicate.olt (FloatOps.absf (X i)) (FloatOps.ofBits .f32 0x7F800000#32) := rfl
/-- The second word of the precondition: the weight is below infinity in absolute value. -/
theorem pre_weights (i : S2x4x3.Idx) : (Cert.Pre_finite_nonzero_patches.fn (F := Ideal) X W H B).2.1 i =
    FloatOps.cmpf CmpFPredicate.olt (FloatOps.absf (W i)) (FloatOps.ofBits .f32 0x7F800000#32) := rfl
/-- The third word of the precondition: the entry of the head is below infinity in absolute value. -/
theorem pre_head (i : S96x500.Idx) : (Cert.Pre_finite_nonzero_patches.fn (F := Ideal) X W H B).2.2.1 i =
    FloatOps.cmpf CmpFPredicate.olt (FloatOps.absf (H i)) (FloatOps.ofBits .f32 0x7F800000#32) := rfl
/-- The fourth word of the precondition: the squared norm of the patch is above zero. -/
theorem pre_norms (n : S512000.Idx) : (Cert.Pre_finite_nonzero_patches.fn (F := Ideal) X W H B).2.2.2 n =
    FloatOps.cmpf (F := Ideal) (φ := .f32) CmpFPredicate.ogt (val_main_call0_v1 (F := Ideal) X n) (FloatOps.ofBits .f32 0x00000000#32) := rfl

/-- The word of infinity. -/
theorem word_top : Ideal.ofBits .f32 0x7F800000#32 = ⊤ := by
  simp [Ideal.ofBits, Ideal.ieee]

/-- The word of zero. -/
theorem word_zero : Ideal.ofBits .f32 0x00000000#32 = 0 := by
  simp [Ideal.ofBits, Ideal.ieee]

/-- A decision read as a word is one when it is true. -/
theorem decided {p : Prop} [Decidable p] (h : BitVec.ofBool (decide p) = 1#1) : p := by
  by_contra hp
  rw [decide_eq_false hp] at h
  exact absurd h (by decide)

/-- A number below infinity in absolute value is real. -/
theorem finite_of_word (a : EReal) (h : FloatOps.cmpf (F := Ideal) (φ := .f32) CmpFPredicate.olt (FloatOps.absf (F := Ideal) (φ := .f32) a) (FloatOps.ofBits .f32 0x7F800000#32) = 1#1) :
    a ≠ ⊤ ∧ a ≠ ⊥ := by
  have h' : max a (-a) < Ideal.ofBits .f32 0x7F800000#32 := decided h
  rw [word_top] at h'
  constructor
  · rintro rfl
    exact absurd h' (by simp)
  · rintro rfl
    exact absurd h' (by simp)

/-- A real number above the word of zero is positive. -/
theorem positive_of_word (r : ℝ) (h : FloatOps.cmpf (F := Ideal) (φ := .f32) CmpFPredicate.ogt (r : EReal) (FloatOps.ofBits .f32 0x00000000#32) = 1#1) : 0 < r := by
  have h' : Ideal.ofBits .f32 0x00000000#32 < (r : EReal) := decided h
  rw [word_zero] at h'
  exact_mod_cast h'

/-- Under the precondition the samples, the weights and the head are real numbers, and every patch has a positive squared norm. -/
theorem real_of_pre (h : (Cert.Pre_finite_nonzero_patches.fn (F := Ideal) X W H B).1 = (fun _ => 1#1) ∧ (Cert.Pre_finite_nonzero_patches.fn (F := Ideal) X W H B).2.1 = (fun _ => 1#1)
      ∧ (Cert.Pre_finite_nonzero_patches.fn (F := Ideal) X W H B).2.2.1 = (fun _ => 1#1) ∧ (Cert.Pre_finite_nonzero_patches.fn (F := Ideal) X W H B).2.2.2 = (fun _ => 1#1)) :
    ∃ x w hw, X = up x ∧ W = up w ∧ H = up hw ∧ ∀ b p, 0 < normSq x b p := by
  obtain ⟨x, hx⟩ := exists_up X fun i => finite_of_word _ ((pre_samples X W H B i).symm.trans (congrFun h.1 i))
  obtain ⟨w, hw⟩ := exists_up W fun i => finite_of_word _ ((pre_weights X W H B i).symm.trans (congrFun h.2.1 i))
  obtain ⟨k, hk⟩ := exists_up H fun i => finite_of_word _ ((pre_head X W H B i).symm.trans (congrFun h.2.2.1 i))
  refine ⟨x, w, k, hx, hw, hk, fun b p => ?_⟩
  have hn := (pre_norms X W H B (ix1 ⟨125 * b.val + p.val, by omega⟩)).symm.trans (congrFun h.2.2.2 _)
  rw [hx, v0_apply] at hn
  have hp := positive_of_word _ hn
  have e1 : rowOf ⟨125 * b.val + p.val, by omega⟩ = b := Fin.ext (by show (125 * b.val + p.val) / 125 = b.val; omega)
  have e2 : placeOf ⟨125 * b.val + p.val, by omega⟩ = p := Fin.ext (by show (125 * b.val + p.val) % 125 = p.val; omega)
  rwa [e1, e2] at hp

end Cert.Circuit
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Final
public import proofs.«01_k».proof.Proof.Pre
public import Idealize.ShloMosaic.Adequacy
public import Idealize.ShloMosaic.Init

@[expose] public section

set_option maxRecDepth 16384

noncomputable section

namespace Cert.Proof

open Idealize.ShloMosaic Idealize.SL.Sem Cert.Kernel

/-- The kernel terminates with its arguments unchanged and every counter at zero. -/
theorem frame_kernel : Cert.quiescent_Kernel := fun m ρ _ => Cert.Kernel.Gen.frame m ρ

/-- The same of the idealized kernel. -/
theorem frame_kernel_ideal : Cert.quiescent_KernelIdeal := fun m ρ _ => Cert.KernelIdeal.Gen.frame m ρ

/-- The reference terminates with its arguments unchanged; it has no counters. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- The constant that the idealized kernel names rounds to the kernel's own. -/
theorem preserves : Cert.preserves_Kernel_KernelIdeal := IdealRules.named_const.statement Cert.KernelIdeal.κ "patch_eps2" .f32 0x2D8CBCCC#32 _ rfl

/-- On the same real samples, weights and head with no patch of norm zero, and any bias, the idealized kernel and the reference end with equal results. -/
theorem algebraic [Cert.Pre_finite_nonzero_patches.Facts] : Cert.algebraic_KernelIdeal_ReferenceIdeal_pre_finite_nonzero_patches := by
  intro m ρ m' ρ' hpre hargs
  refine ⟨fun c => Cert.Circuit.arranged ((Cert.KernelIdeal.Gen.dats m 0 c).arrAt 8 Cert.KernelIdeal.cfg0.N), Cert.Circuit.kernel_run m ρ, ?_⟩
  refine (θ_run Cert.ReferenceIdeal.defs _ _).mono (fun r h c => ⟨?_, (h c).2⟩) (Cert.ReferenceIdeal.Value.run (F := Ideal) m' ρ')
  obtain ⟨x, w, hw, h0, h1, h2, hx⟩ := Cert.Circuit.real_of_pre _ _ _ _ (hpre c)
  refine (h c).1.trans ((Cert.ReferenceIdeal.Read.val_main_v313_eq (StableHlo.launchContents m' c)).trans ?_)
  refine Eq.trans ?_ (Cert.Circuit.kernel_value m c x w hw h0 h1 h2 hx).symm
  have e0 : StableHlo.launchContents m' c (Proc.devRef .tc Cert.ReferenceIdeal.main_arg0) = Cert.Circuit.up x := (hargs c).1.trans h0
  have e1 : StableHlo.launchContents m' c (Proc.devRef .tc Cert.ReferenceIdeal.main_arg1) = Cert.Circuit.up w := (hargs c).2.1.trans h1
  have e2 : StableHlo.launchContents m' c (Proc.devRef .tc Cert.ReferenceIdeal.main_arg2) = Cert.Circuit.up hw := (hargs c).2.2.1.trans h2
  have e3 : StableHlo.launchContents m' c (Proc.devRef .tc Cert.ReferenceIdeal.main_arg3) = m (c, Proc.devRef .tc Cert.KernelIdeal.main_arg3) := (hargs c).2.2.2
  rw [e0, e1, e2, e3]

/-- All the claims. -/
theorem claim : Cert.Claim := ⟨Cert.Kernel.Gen.facts, Cert.KernelIdeal.Gen.facts, Cert.ReferenceIdeal.Gen.facts, Cert.Circuit.pre_facts, by
  haveI := Cert.Circuit.pre_facts
  exact ⟨frame_kernel, frame_kernel_ideal, fun m ρ _ => frame_kernel_ideal m ρ trivial, frame_reference, fun m ρ _ => frame_reference m ρ trivial, preserves, algebraic⟩⟩

end Cert.Proof

end
